-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S128x2048 : S_.BroadcastsInDim S128x2048 (![] : Fin 0 → Fin S128x2048.rank)
  reducesTo_S128x2048_S_d0_1 : S128x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .f32) (main_arg6 : FVec F S2048x32 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .f32 := Host.absf main_arg6
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S2x512x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S_ 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_v13 main_v16
-- ==== Pre_finite_ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256x2048 : S_.BroadcastsInDim S256x2048 (![] : Fin 0 → Fin S256x2048.rank)
  reducesTo_S256x2048_S_d0_1 : S256x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .f32) (main_arg6 : FVec F S2048x32 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .f32 := Host.absf main_arg6
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S2x512x2048 .f32) (main_arg1 : FVec F S2048x256 .f32) (main_arg2 : FVec F S256x2048 .f32) (main_arg3 : FVec F S256x2048 .f32) (main_arg4 : FVec F S2048x2048 .f32) (main_arg5 : FVec F S2048x512 .f32) (main_arg6 : FVec F S2048x32 .f32) (main_arg7 : FVec F S2048x2048 .f32) : IVec S_ 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_v13 main_v16
-- ==== Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S2048x256 : Shape := ⟨2, ![2048, 256]⟩
abbrev S1x512x2048 : Shape := ⟨3, ![1, 512, 2048]⟩
abbrev S1024x2048 : Shape := ⟨2, ![1024, 2048]⟩
abbrev S1024x256 : Shape := ⟨2, ![1024, 256]⟩
abbrev S256x2048 : Shape := ⟨2, ![256, 2048]⟩
abbrev S1024x512 : Shape := ⟨2, ![1024, 512]⟩
abbrev S1024x32 : Shape := ⟨2, ![1024, 32]⟩
abbrev S512x2048 : Shape := ⟨2, ![512, 2048]⟩
abbrev S3 : Shape := ⟨1, ![3]⟩
abbrev S_ : Shape := ⟨0, ![]⟩
abbrev S1024x128 : Shape := ⟨2, ![1024, 128]⟩
abbrev S1 : Shape := ⟨1, ![1]⟩
abbrev S512x256 : Shape := ⟨2, ![512, 256]⟩
abbrev S512x32 : Shape := ⟨2, ![512, 32]⟩
abbrev S512x512 : Shape := ⟨2, ![512, 512]⟩
abbrev S512x96 : Shape := ⟨2, ![512, 96]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 21
  | .smem => 0
  | _ => 0

abbrev bufTy : (tb : Table) → Fin (tcTables nBuf tb) → BufTy
  | .hbm, ⟨0, _⟩ => ⟨S2x512x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x2048, .f32⟩
  | .local _ .vmem, ⟨0, _⟩ => ⟨S2x512x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x256, .f32⟩
  | .local _ .vmem, ⟨5, _⟩ => ⟨S2048x256, .f32⟩
  | .local _ .vmem, ⟨6, _⟩ => ⟨S2048x512, .f32⟩
  | .local _ .vmem, ⟨7, _⟩ => ⟨S2048x32, .f32⟩
  | .local _ .vmem, ⟨8, _⟩ => ⟨S2048x256, .f32⟩
  | .local _ .vmem, ⟨9, _⟩ => ⟨S2048x256, .f32⟩
  | .local _ .vmem, ⟨10, _⟩ => ⟨S1x512x2048, .f32⟩
  | .local _ .vmem, ⟨11, _⟩ => ⟨S1x512x2048, .f32⟩
  | .local _ .vmem, ⟨12, _⟩ => ⟨S1024x2048, .bf16⟩
  | .local _ .vmem, ⟨13, _⟩ => ⟨S1024x256, .bf16⟩
  | .local _ .vmem, ⟨14, _⟩ => ⟨S256x2048, .bf16⟩
  | .local _ .vmem, ⟨15, _⟩ => ⟨S256x2048, .bf16⟩
  | .local _ .vmem, ⟨16, _⟩ => ⟨S1024x2048, .bf16⟩
  | .local _ .vmem, ⟨17, _⟩ => ⟨S1024x512, .bf16⟩
  | .local _ .vmem, ⟨18, _⟩ => ⟨S1024x32, .bf16⟩
  | .local _ .vmem, ⟨19, _⟩ => ⟨S2048x2048, .bf16⟩
  | .local _ .vmem, ⟨20, _⟩ => ⟨S512x2048, .bf16⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev barrier0 : Sem sig := 0

abbrev nD : Nat := 4
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_3 : BitVec 32 := 0#32
  let v10 : BitVec 1 := Scalar.cmpi .ne v9 c0_i32_3
  v10

def k0_dev1 (d0 : Dev nD) : Nat :=
  let c0_i32_10 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_9 : BitVec 32 := 2#32
  let v21 : BitVec 32 := Scalar.muli v2 c2_i32_9
  let v22 : BitVec 32 := Scalar.addi c0_i32_10 v21
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_11 : BitVec 32 := 1#32
  let v23 : BitVec 32 := Scalar.muli v6 c1_i32_11
  let v24 : BitVec 32 := Scalar.addi v22 v23
  v24.toNat
def k0_off1 (d0 : Dev nD) : Fin 2 → Nat :=
  let c0_21 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32 : BitVec 32 := 128#32
  let v7 : BitVec 32 := Scalar.muli v5 c128_i32
  let v38 : Index := Scalar.indexCast v7
  ![0, v38.toNat]
def k0_off2 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32 : BitVec 32 := 128#32
  let v7 : BitVec 32 := Scalar.muli v5 c128_i32
  let v45 : Index := Scalar.indexCast v7
  let c0_24 : Index := 0#32
  ![v45.toNat, 0]
def k0_off3 (d0 : Dev nD) : Fin 2 → Nat :=
  let c0_i32_33 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32 : BitVec 32 := 128#32
  let v7 : BitVec 32 := Scalar.muli v5 c128_i32
  ![0, v7.toNat]
def k0_dev2 (d0 : Dev nD) : Nat :=
  let c0_i32_31 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_30 : BitVec 32 := 2#32
  let v56 : BitVec 32 := Scalar.muli v2 c2_i32_30
  let v57 : BitVec 32 := Scalar.addi c0_i32_31 v56
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_32 : BitVec 32 := 1#32
  let v58 : BitVec 32 := Scalar.muli v6 c1_i32_32
  let v59 : BitVec 32 := Scalar.addi v57 v58
  v59.toNat
def k0_off4 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32 : BitVec 32 := 128#32
  let v7 : BitVec 32 := Scalar.muli v5 c128_i32
  let c0_i32_40 : BitVec 32 := 0#32
  ![v7.toNat, 0]
def k0_dev3 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v66 : BitVec 32 := Scalar.muli v2 c2_i32_37
  let v67 : BitVec 32 := Scalar.addi c0_i32_38 v66
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_39 : BitVec 32 := 1#32
  let v68 : BitVec 32 := Scalar.muli v6 c1_i32_39
  let v69 : BitVec 32 := Scalar.addi v67 v68
  v69.toNat
def k0_dev4 (d0 : Dev nD) : Nat :=
  let c0_i32_45 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_44 : BitVec 32 := 2#32
  let v76 : BitVec 32 := Scalar.muli v2 c2_i32_44
  let v77 : BitVec 32 := Scalar.addi c0_i32_45 v76
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_46 : BitVec 32 := 1#32
  let v78 : BitVec 32 := Scalar.muli v6 c1_i32_46
  let v79 : BitVec 32 := Scalar.addi v77 v78
  v79.toNat
def k0_cond2 (i : grid0.Coords) : BitVec 1 :=
  let arg0 : BitVec 32 := BitVec.ofNat 32 (i 0).val
  let c8_i32 : BitVec 32 := 8#32
  let v11 : BitVec 1 := Scalar.cmpi .slt arg0 c8_i32
  let v12 : BitVec 32 := Scalar.extui v11
  let c0_i32_4 : BitVec 32 := 0#32
  let v13 : BitVec 1 := Scalar.cmpi .ne v12 c0_i32_4
  v13

def k0_off5 (i : grid0.Coords) : Fin 2 → Nat :=
  let c0_13 : Index := 0#32
  let arg0 : BitVec 32 := BitVec.ofNat 32 (i 0).val
  let c7_i32_8 : BitVec 32 := 7#32
  let v20 : BitVec 32 := Scalar.minsi arg0 c7_i32_8
  let c256_i32 : BitVec 32 := 256#32
  let v29 : BitVec 32 := Scalar.muli v20 c256_i32
  let v30 : Index := Scalar.indexCast v29
  ![0, v30.toNat]
def k0_off6 (i : grid0.Coords) : Fin 2 → Nat :=
  let c0_17 : Index := 0#32
  let arg0 : BitVec 32 := BitVec.ofNat 32 (i 0).val
  let c7_i32_8 : BitVec 32 := 7#32
  let v20 : BitVec 32 := Scalar.minsi arg0 c7_i32_8
  let c256_i32_16 : BitVec 32 := 256#32
  let v37 : BitVec 32 := Scalar.muli v20 c256_i32_16
  let v38 : Index := Scalar.indexCast v37
  ![0, v38.toNat]
def k0_cond3 (i : grid0.Coords) : BitVec 1 :=
  let arg0 : BitVec 32 := BitVec.ofNat 32 (i 0).val
  let c7_i32 : BitVec 32 := 7#32
  let v14 : BitVec 1 := Scalar.cmpi .eq arg0 c7_i32
  let v15 : BitVec 32 := Scalar.extui v14
  let c0_i32_5 : BitVec 32 := 0#32
  let v16 : BitVec 1 := Scalar.cmpi .ne v15 c0_i32_5
  v16

def k0_off7 (d0 : Dev nD) : Fin 2 → Nat :=
  let c0_i32_11 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32 : BitVec 32 := 128#32
  let v7 : BitVec 32 := Scalar.muli v5 c128_i32
  ![0, v7.toNat]
def k0_off8 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32 : BitVec 32 := 128#32
  let v7 : BitVec 32 := Scalar.muli v5 c128_i32
  let c0_i32_23 : BitVec 32 := 0#32
  ![v7.toNat, 0]
def k0_cond4 (i : grid0.Coords) : BitVec 1 :=
  let arg0 : BitVec 32 := BitVec.ofNat 32 (i 0).val
  let c8_i32_6 : BitVec 32 := 8#32
  let v17 : BitVec 1 := Scalar.cmpi .sge arg0 c8_i32_6
  let v18 : BitVec 32 := Scalar.extui v17
  let c0_i32_7 : BitVec 32 := 0#32
  let v19 : BitVec 1 := Scalar.cmpi .ne v18 c0_i32_7
  v19

def k0_off9 (i : grid0.Coords) : Fin 2 → Nat :=
  let arg0 : BitVec 32 := BitVec.ofNat 32 (i 0).val
  let c8_i32_8 : BitVec 32 := 8#32
  let v20 : BitVec 32 := Scalar.subi arg0 c8_i32_8
  let c0_i32_9 : BitVec 32 := 0#32
  let v21 : BitVec 32 := Scalar.maxsi v20 c0_i32_9
  let c512_i32 : BitVec 32 := 512#32
  let v22 : BitVec 32 := Scalar.muli v21 c512_i32
  let v23 : Index := Scalar.indexCast v22
  let c0 : Index := 0#32
  ![v23.toNat, 0]
def k0_off10 (i : grid0.Coords) : Fin 2 → Nat :=
  let arg0 : BitVec 32 := BitVec.ofNat 32 (i 0).val
  let c8_i32_8 : BitVec 32 := 8#32
  let v20 : BitVec 32 := Scalar.subi arg0 c8_i32_8
  let c0_i32_9 : BitVec 32 := 0#32
  let v21 : BitVec 32 := Scalar.maxsi v20 c0_i32_9
  let c512_i32 : BitVec 32 := 512#32
  let v22 : BitVec 32 := Scalar.muli v21 c512_i32
  let v31 : Index := Scalar.indexCast v22
  let c0_15 : Index := 0#32
  ![v31.toNat, 0]
def k0_off11 (i : grid0.Coords) : Fin 2 → Nat :=
  let arg0 : BitVec 32 := BitVec.ofNat 32 (i 0).val
  let c8_i32_8 : BitVec 32 := 8#32
  let v20 : BitVec 32 := Scalar.subi arg0 c8_i32_8
  let c0_i32_9 : BitVec 32 := 0#32
  let v21 : BitVec 32 := Scalar.maxsi v20 c0_i32_9
  let c512_i32 : BitVec 32 := 512#32
  let v22 : BitVec 32 := Scalar.muli v21 c512_i32
  let v33 : Index := Scalar.indexCast v22
  let c0_16 : Index := 0#32
  ![v33.toNat, 0]
def k0_off12 (i : grid0.Coords) : Fin 2 → Nat :=
  let arg0 : BitVec 32 := BitVec.ofNat 32 (i 0).val
  let c8_i32_8 : BitVec 32 := 8#32
  let v20 : BitVec 32 := Scalar.subi arg0 c8_i32_8
  let c0_i32_9 : BitVec 32 := 0#32
  let v21 : BitVec 32 := Scalar.maxsi v20 c0_i32_9
  let c512_i32 : BitVec 32 := 512#32
  let v22 : BitVec 32 := Scalar.muli v21 c512_i32
  let v35 : Index := Scalar.indexCast v22
  let c0_17 : Index := 0#32
  ![v35.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 1 → Memref sig .tc .vmem S2x512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S2x512x256 : Shape := ⟨3, ![2, 512, 256]⟩
abbrev S2x512x16x128 : Shape := ⟨4, ![2, 512, 16, 128]⟩
abbrev S2x512x512 : Shape := ⟨3, ![2, 512, 512]⟩
abbrev S2x512x16x32 : Shape := ⟨4, ![2, 512, 16, 32]⟩
abbrev S2x512x32 : Shape := ⟨3, ![2, 512, 32]⟩
abbrev S2x512x1x32 : Shape := ⟨4, ![2, 512, 1, 32]⟩
abbrev S2x16x512x512 : Shape := ⟨4, ![2, 16, 512, 512]⟩
abbrev S_ : Shape := ⟨0, ![]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2048x256, .f32⟩
  | .hbm, ⟨2, _⟩ => ⟨S256x2048, .f32⟩
  | .hbm, ⟨3, _⟩ => ⟨S256x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x256, .f32⟩
  | .hbm, ⟨9, _⟩ => ⟨S2x512x2048, .f32⟩
  | .hbm, ⟨10, _⟩ => ⟨S2x512x16x128, .f32⟩
  | .hbm, ⟨11, _⟩ => ⟨S2x512x2048, .f32⟩
  | .hbm, ⟨12, _⟩ => ⟨S2x512x16x128, .f32⟩
  | .hbm, ⟨13, _⟩ => ⟨S2x512x2048, .f32⟩
  | .hbm, ⟨14, _⟩ => ⟨S2x512x16x128, .f32⟩
  | .hbm, ⟨15, _⟩ => ⟨S2x512x512, .f32⟩
  | .hbm, ⟨16, _⟩ => ⟨S2x512x16x32, .f32⟩
  | .hbm, ⟨17, _⟩ => ⟨S2x512x32, .f32⟩
  | .hbm, ⟨18, _⟩ => ⟨S2x512x1x32, .f32⟩
  | .hbm, ⟨19, _⟩ => ⟨S2x16x512x512, .f32⟩
  | .hbm, ⟨20, _⟩ => ⟨S2x512x16x32, .f32⟩
  | .hbm, ⟨21, _⟩ => ⟨S2x16x512x512, .f32⟩
  | .hbm, ⟨22, _⟩ => ⟨S2x16x512x512, .f32⟩
  | .hbm, ⟨23, _⟩ => ⟨S_, .f32⟩
  | .hbm, ⟨24, _⟩ => ⟨S2x16x512x512, .f32⟩
  | .hbm, ⟨25, _⟩ => ⟨S2x16x512x512, .f32⟩
  | .hbm, ⟨26, _⟩ => ⟨S_, .f32⟩
  | .hbm, ⟨27, _⟩ => ⟨S2x16x512, .f32⟩
  | .hbm, ⟨28, _⟩ => ⟨S2x16x512x1, .f32⟩
  | .hbm, ⟨29, _⟩ => ⟨S2x16x512x512, .f32⟩
  | .hbm, ⟨30, _⟩ => ⟨S2x16x512x512, .f32⟩
  | .hbm, ⟨31, _⟩ => ⟨S2x16x512x512, .f32⟩
  | .hbm, ⟨32, _⟩ => ⟨S_, .f32⟩
  | .hbm, ⟨33, _⟩ => ⟨S2x16x512, .f32⟩
  | .hbm, ⟨34, _⟩ => ⟨S2x16x512x1, .f32⟩
  | .hbm, ⟨35, _⟩ => ⟨S2x16x512x512, .f32⟩
  | .hbm, ⟨36, _⟩ => ⟨S2x16x512x512, .f32⟩
  | .hbm, ⟨37, _⟩ => ⟨S2x16x128x512, .f32⟩
  | .hbm, ⟨38, _⟩ => ⟨S2x512x16x128, .f32⟩
  | .hbm, ⟨39, _⟩ => ⟨S2x512x2048, .f32⟩
  | .hbm, ⟨40, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Own.lean ====
/-
  Loads and stores of the kernel stated on LOGICAL contents.

  A core that owns a memref at contents `X` (`owns c M q X`) loads a rectangle of it as `X` at the rectangle's places, and
  a store through a rectangle leaves it owned at `X` with the rectangle's part replaced (`Rect.overlay`). The forms here
  are the ones the body needs: a rectangle of a memref (`wp_load_owns`, `wp_store_owns`), a whole memref (`…_full`), and a
  memref of which only one slice is owned, accessed through the enclosing memref (`wp_load_slice`, `wp_store_slice`).
-/
module

public import proofs.«01_k».proof.Proof.Gen.KernelIdeal.Frame
public import proofs.«01_k».proof.Proof.Gen.KernelIdeal.Skeleton
public import Idealize.ShloMosaic.Lib.ValueIdx
public import Idealize.ShloMosaic.Lib.Pipeline.Launch
public import Idealize.ShloMosaic.Lib.Pipeline.Kit
public import Idealize.ShloMosaic.Lib.Tactic

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources: the rounds library's for the pipeline's staging cells, beside its for the kernel's own cells. -/
abbrev UU : Type := UR sig nD τ × UR sig nD τ

local notation "𝕄" => MT nD τ sig Unit (Elt F) ℕ UU ℕ

/-- No variants are used: the body has no loop. -/
abbrev 𝒱₀ : Variants := Variants.none

/-! ## Rectangles and overlays -/

/-- The places of a unit rectangle, coordinate by coordinate. -/
theorem emb_unit_val {s : Shape} (off size : Fin s.rank → Nat) (inb) (j : (Rect.unit (s := s) off size inb).shape.Idx) (a : Fin s.rank) :
    ((Rect.unit (s := s) off size inb).emb j a).val = off a + (j a).val := by
  show off a + 1 * (j a).val = _
  rw [Nat.one_mul]

/-- A rectangle at offset zero of the full extents replaces everything. -/
theorem overlay_full {s : Shape} {α : Type} {off : Fin s.rank → Nat} (h : off = fun _ => 0) (inb : ∀ a, off a + s.size a ≤ s.size a)
    (X : s.Idx → α) (w : s.Idx → α) : (Rect.unit (s := s) off s.size inb).overlay X w = w := by
  subst h
  funext i
  have e : (Rect.unit (s := s) (fun _ => 0) s.size inb).emb i = i :=
    funext fun a => Fin.ext (by rw [emb_unit_val]; exact Nat.zero_add _)
  have := Rect.overlay_emb (Rect.unit (s := s) (fun _ => 0) s.size inb) X w i
  rwa [e] at this

/-- A rectangle at offset zero of the full extents reads everything. -/
theorem emb_full {s : Shape} {off : Fin s.rank → Nat} (h : off = fun _ => 0) (inb : ∀ a, off a + s.size a ≤ s.size a) (i : s.Idx) :
    (Rect.unit (s := s) off s.size inb).emb i = i := by
  subst h
  exact funext fun a => Fin.ext (by rw [emb_unit_val]; exact Nat.zero_add _)

theorem zero2 : (![0, 0] : Fin 2 → Nat) = fun _ => 0 := funext fun a => by fin_cases a <;> rfl
theorem zero3 : (![0, 0, 0] : Fin 3 → Nat) = fun _ => 0 := funext fun a => by fin_cases a <;> rfl

/-! ## Rules -/

section Rules

variable (c : Dev nD) {sp : CoreSpace} {s : Shape} {e : EltTy} (M : Memref sig .tc sp s e) {α : Type}

/-- A load through a rectangle of an owned memref. -/
theorem wp_load_owns (X : s.Idx → Elt F e) {q : PosShare TreeShare} {r : Rect s} {hl : M.view.LoadsAt r.toLoadRect}
    {k : (r.shape.Idx → Elt F e) → Prog (TpuEff nD τ sig (Elt F) Λ₀ .tc) α} {Q : α → sProp 𝕄} :
    (owns (c : Thread nD τ) M q X : sProp 𝕄)
      ⊢ iprop((owns (c : Thread nD τ) M q X -∗ wp frame (wpE (defs₀ (F := F)) 𝒱₀ (c : Thread nD τ) none) Set.univ (k fun j => X (r.emb j)) Q)
        -∗ wp frame (wpE (defs₀ (F := F)) 𝒱₀ (c : Thread nD τ) none) Set.univ (.op (.load M r.toLoadRect hl) k) Q) := by
  iintro H Hk
  ihave H' := (show (owns (c : Thread nD τ) M q X : sProp 𝕄)
      ⊢ iprop(∃ g, ⌜M.view.read (Elt F) g = X⌝ ∗ M.view.loc (c : Thread nD τ) ↦[M.view.set]{q} g) from .rfl) $$ H
  icases H' with ⟨%g, %hg, H⟩
  iapply (wp_load 𝒱₀ (c : Thread nD τ) none Set.univ (m := M) (View.setOn_subset_set _ _)) $$ H
  iintro H
  subst hg
  iapply Hk
  iapply owns_intro
  iexact H

/-- A store through a rectangle of an owned memref. -/
theorem wp_store_owns (X : s.Idx → Elt F e) {r : Rect s} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α} {Q : α → sProp 𝕄} :
    (owns (c : Thread nD τ) M fullShare X : sProp 𝕄)
      ⊢ iprop((owns (c : Thread nD τ) M fullShare (r.overlay X w) -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  iintro H Hk
  ihave H' := (show (owns (c : Thread nD τ) M fullShare X : sProp 𝕄)
      ⊢ iprop(∃ g, ⌜M.view.read (Elt F) g = X⌝ ∗ M.view.loc (c : Thread nD τ) ↦[M.view.set]{fullShare} g) from .rfl) $$ H
  icases H' with ⟨%g, %hg, H⟩
  iapply (wp_store 𝒱₀ (c : Thread nD τ) none Set.univ (m := M) (r := r) (S := M.view.set)
    ((View.setOn_subset_set _ _).trans (View.set_slice_subset _ _))) $$ H
  iintro H
  have he : M.view.read (Elt F) ((M.access r).write (Elt F) g w Finset.univ) = r.overlay X w := by
    funext i
    by_cases hi : i ∈ r.set
    · rw [← Rect.map_emb_univ, Finset.mem_map] at hi
      obtain ⟨j, -, rfl⟩ := hi
      rw [Rect.overlay_emb]
      exact View.read_slice_write_emb r g w (Finset.mem_univ j)
    · rw [Rect.overlay_of_not_mem _ _ _ hi, ← hg]
      exact View.read_slice_write_of_not_mem r g w _ (by rw [Rect.map_emb_univ]; exact hi)
  iapply Hk
  rw [← he]
  iapply owns_intro
  iexact H

/-- A load of the whole of an owned memref. -/
theorem wp_load_full (X : s.Idx → Elt F e) {q : PosShare TreeShare} {off : Fin s.rank → Nat} (h : off = fun _ => 0)
    {inb : ∀ a, off a + s.size a ≤ s.size a} {hl : M.view.LoadsAt (Rect.unit (s := s) off s.size inb).toLoadRect}
    {k : (s.Idx → Elt F e) → Prog (TpuEff nD τ sig (Elt F) Λ₀ .tc) α} {Q : α → sProp 𝕄} :
    (owns (c : Thread nD τ) M q X : sProp 𝕄)
      ⊢ iprop((owns (c : Thread nD τ) M q X -∗ wp frame (wpE (defs₀ (F := F)) 𝒱₀ (c : Thread nD τ) none) Set.univ (k X) Q)
        -∗ wp frame (wpE (defs₀ (F := F)) 𝒱₀ (c : Thread nD τ) none) Set.univ (.op (.load M (Rect.unit (s := s) off s.size inb).toLoadRect hl) k) Q) := by
  have e : (fun j : s.Idx => X ((Rect.unit (s := s) off s.size inb).emb j)) = X := funext fun i => by rw [emb_full h]
  have := wp_load_owns c M X (q := q) (r := Rect.unit (s := s) off s.size inb) (hl := hl) (k := k) (Q := Q)
  exact this.trans (Entails.of_eq (by rw [show (fun j : (Rect.unit (s := s) off s.size inb).shape.Idx => X ((Rect.unit (s := s) off s.size inb).emb j)) = X from e]))

/-- A store of the whole of an owned memref. -/
theorem wp_store_full (X : s.Idx → Elt F e) {off : Fin s.rank → Nat} (h : off = fun _ => 0)
    {inb : ∀ a, off a + s.size a ≤ s.size a} {w : s.Idx → Elt F e}
    {hx : (M.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ₀ .tc) α} {Q : α → sProp 𝕄} :
    (owns (c : Thread nD τ) M fullShare X : sProp 𝕄)
      ⊢ iprop((owns (c : Thread nD τ) M fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit (s := s) off s.size inb) w Finset.univ hx hm) k) Q) := by
  have := wp_store_owns c M X (r := Rect.unit (s := s) off s.size inb) (w := w) (hx := hx) (hm := hm) (k := k) (Q := Q)
  exact this.trans (Entails.of_eq (by rw [overlay_full h]))

/-- A load of a slice that is owned apart, through the memref it is a slice of; what it reads is not used. -/
theorem wp_load_slice {off off' size : Fin s.rank → Nat} (h : off' = off) {inb : ∀ a, off a + size a ≤ s.size a}
    {inb' : ∀ a, off' a + size a ≤ s.size a} (X : (⟨s.rank, size⟩ : Shape).Idx → Elt F e) {q : PosShare TreeShare}
    {hl : M.view.LoadsAt (Rect.unit (s := s) off' size inb').toLoadRect}
    {k : ((⟨s.rank, size⟩ : Shape).Idx → Elt F e) → Prog (TpuEff nD τ sig (Elt F) Λ₀ .tc) α} {Q : α → sProp 𝕄} :
    (owns (c : Thread nD τ) (M.slice (Rect.unit (s := s) off size inb) (fun _ => rfl)) q X : sProp 𝕄)
      ⊢ iprop((∀ v, owns (c : Thread nD τ) (M.slice (Rect.unit (s := s) off size inb) (fun _ => rfl)) q X
            -∗ wp frame (wpE (defs₀ (F := F)) 𝒱₀ (c : Thread nD τ) none) Set.univ (k v) Q)
        -∗ wp frame (wpE (defs₀ (F := F)) 𝒱₀ (c : Thread nD τ) none) Set.univ (.op (.load M (Rect.unit (s := s) off' size inb').toLoadRect hl) k) Q) := by
  subst h
  iintro H Hk
  ihave H' := (show (owns (c : Thread nD τ) (M.slice (Rect.unit (s := s) off' size inb) (fun _ => rfl)) q X : sProp 𝕄)
      ⊢ iprop(∃ g, ⌜(M.slice (Rect.unit (s := s) off' size inb) (fun _ => rfl)).view.read (Elt F) g = X⌝
          ∗ (M.access (Rect.unit (s := s) off' size inb)).loc (c : Thread nD τ) ↦[(M.access (Rect.unit (s := s) off' size inb)).set]{q} g) from .rfl) $$ H
  icases H' with ⟨%g, %hg, H⟩
  iapply (wp_load_rect 𝒱₀ (c : Thread nD τ) none Set.univ (m := M) (r := Rect.unit (s := s) off' size inb) subset_rfl) $$ H
  iintro H
  ispecialize Hk $$ %((M.access (Rect.unit (s := s) off' size inb)).read (Elt F) g)
  iapply Hk
  subst hg
  iapply (owns_intro (c : Thread nD τ) (M.slice (Rect.unit (s := s) off' size inb) (fun _ => rfl)))
  iexact H

/-- A store of a slice that is owned apart, through the memref it is a slice of. -/
theorem wp_store_slice {off off' size : Fin s.rank → Nat} (h : off' = off) {inb : ∀ a, off a + size a ≤ s.size a}
    {inb' : ∀ a, off' a + size a ≤ s.size a} (X : (⟨s.rank, size⟩ : Shape).Idx → Elt F e) {w : (⟨s.rank, size⟩ : Shape).Idx → Elt F e}
    {hx : (M.access (Rect.unit (s := s) off' size inb')).Stores Finset.univ}
    {hm : (Finset.univ : Finset (Rect.unit (s := s) off' size inb').shape.Idx) = Finset.univ ∨ ∀ a, (Rect.unit (s := s) off' size inb').stride a = 1}
    {k : PUnit → Prog (TpuEff nD τ sig (Elt F) Λ₀ .tc) α} {Q : α → sProp 𝕄} :
    (owns (c : Thread nD τ) (M.slice (Rect.unit (s := s) off size inb) (fun _ => rfl)) fullShare X : sProp 𝕄)
      ⊢ iprop((owns (c : Thread nD τ) (M.slice (Rect.unit (s := s) off size inb) (fun _ => rfl)) fullShare w
            -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit (s := s) off' size inb') w Finset.univ hx hm) k) Q) := by
  subst h
  iintro H Hk
  ihave H' := (show (owns (c : Thread nD τ) (M.slice (Rect.unit (s := s) off' size inb) (fun _ => rfl)) fullShare X : sProp 𝕄)
      ⊢ iprop(∃ g, ⌜(M.slice (Rect.unit (s := s) off' size inb) (fun _ => rfl)).view.read (Elt F) g = X⌝
          ∗ (M.access (Rect.unit (s := s) off' size inb)).loc (c : Thread nD τ) ↦[(M.access (Rect.unit (s := s) off' size inb)).set]{fullShare} g) from .rfl) $$ H
  icases H' with ⟨%g, %hg, H⟩
  iapply (wp_store 𝒱₀ (c : Thread nD τ) none Set.univ (m := M) (r := Rect.unit (s := s) off' size inb) (S := (M.access (Rect.unit (s := s) off' size inb)).set) (Mk := Finset.univ) (View.setOn_subset_set _ _)) $$ H
  iintro H
  iapply Hk
  have hw : (M.slice (Rect.unit (s := s) off' size inb) (fun _ => rfl)).view.read (Elt F)
      ((M.access (Rect.unit (s := s) off' size inb)).write (Elt F) g w Finset.univ) = w := View.read_write_univ g w
  rw [← hw]
  iapply (owns_intro (c : Thread nD τ) (M.slice (Rect.unit (s := s) off' size inb) (fun _ => rfl)))
  rw [hw]
  iexact H

end Rules

end Cert.Mla

end
-- ==== Proof.Contents.lean ====
/-
  What each buffer of a device holds during the run.

  A device `c` of the 2 × 2 mesh belongs to the pair `{2(c/2), 2(c/2)+1}`; `par c` is its place in the pair and `peer c`
  the other one. Each device computes ITS half of the compressed activations (`CO`), of the key up-projection (`KO`) and of
  the value up-projection (`VO`), and gets the other halves from its peer; the whole arrays `Cf`, `Kf`, `Vf` are what the
  two halves make. The query projection `Qv` and the cast output matrix `Wv` are filled in column bands, one a grid point;
  the attention output `OSf` in one column band a head.
-/
module

public import proofs.«01_k».proof.Proof.Own

@[expose] public section

noncomputable section

namespace Cert.Mla

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The pair -/

/-- The place of a device in its pair. -/
def par (c : Dev nD) : Fin 2 := ⟨c.val % 2, Nat.mod_lt _ (by decide)⟩

/-- The device at place `p` of `c`'s pair. -/
def mate (c : Dev nD) (p : Fin 2) : Dev nD := ⟨2 * (c.val / 2) + p.val, by have h : c.val < 4 := c.isLt; show _ < 4; omega⟩

/-- The other device of `c`'s pair. -/
def peer (c : Dev nD) : Dev nD := ⟨(2 * (c.val / 2) + 1) - (c.val % 2), by have h : c.val < 4 := c.isLt; show _ < 4; omega⟩

theorem peer_peer : ∀ c : Dev nD, peer (peer c) = c := by decide
theorem peer_ne : ∀ c : Dev nD, peer c ≠ c := by decide
theorem mate_par : ∀ c : Dev nD, mate c (par c) = c := by decide
theorem mate_peer : ∀ c : Dev nD, mate c (par (peer c)) = peer c := by decide
theorem par_peer_ne : ∀ c : Dev nD, par (peer c) ≠ par c := by decide

/-- The exchange as a permutation of the devices. -/
def swap : Dev nD ≃ Dev nD := ⟨peer, peer, peer_peer, peer_peer⟩

variable {F : FTy → Type} [FloatOps F]
variable (m : (ℓ : Loc nD τ sig) → Buf (Elt F) ℓ)

/-! ## The inputs as the body reads them -/

def inX (c : Dev nD) : Vec F S2x512x2048 .f32 := iblk m c (0 : Fin 9) t0_0
def inWdkv (c : Dev nD) : Vec F S2048x128 .f32 := iblk m c (1 : Fin 9) t0_0
def inWuk (c : Dev nD) : Vec F S128x2048 .f32 := iblk m c (2 : Fin 9) t0_0
def inWuv (c : Dev nD) : Vec F S128x2048 .f32 := iblk m c (3 : Fin 9) t0_0
def inWq (c : Dev nD) (t : Fin grid0.N) : Vec F S2048x256 .f32 := iblk m c (4 : Fin 9) t
def inWqr (c : Dev nD) : Vec F S2048x512 .f32 := iblk m c (5 : Fin 9) t0_0
def inWkr (c : Dev nD) : Vec F S2048x32 .f32 := iblk m c (6 : Fin 9) t0_0
def inWo (c : Dev nD) (t : Fin grid0.N) : Vec F S2048x256 .f32 := iblk m c (7 : Fin 9) t

/-! ## What is computed from them -/

def XB (c : Dev nD) : Vec F S1024x2048 .bf16 := k0_pay6 (inX m c)
def CO (c : Dev nD) : Vec F S1024x128 .bf16 := k0_pay7 (XB m c) (inWdkv m c)
def KO (c : Dev nD) : Vec F S128x2048 .bf16 := k0_pay8 (inWuk m c)
def VO (c : Dev nD) : Vec F S128x2048 .bf16 := k0_pay10 (k0_pay9 (inWuv m c))
def KR (c : Dev nD) : Vec F S1024x32 .bf16 := k0_pay1 (XB m c) (inWkr m c)
def QR (c : Dev nD) : Vec F S1024x512 .bf16 := k0_pay2 (XB m c) (inWqr m c)
def QB (c : Dev nD) (t : Fin grid0.N) : Vec F S1024x256 .bf16 := k0_pay3 (XB m c) (inWq m c t)
def WOB (c : Dev nD) (t : Fin grid0.N) : Vec F S2048x256 .bf16 := k0_pay4 (inWo m c t)

/-- The grid point filling column band `a`. -/
def band (a : Nat) (h : a < 2048) : Fin grid0.N := ⟨a / 256, by rw [N_0]; omega⟩

def Qv (c : Dev nD) : Vec F S1024x2048 .bf16 := fun i =>
  QB m c (band (i 1).val (idx2_lt1 i)) (ix2 (n0 := 1024) (n1 := 256) ⟨(i 0).val, idx2_lt0 i⟩ ⟨(i 1).val % 256, Nat.mod_lt _ (by decide)⟩)
def Wv (c : Dev nD) : Vec F S2048x2048 .bf16 := fun i =>
  WOB m c (band (i 1).val (idx2_lt1 i)) (ix2 (n0 := 2048) (n1 := 256) ⟨(i 0).val, idx2_lt0 i⟩ ⟨(i 1).val % 256, Nat.mod_lt _ (by decide)⟩)

/-- The place a row or column `a < 256` of a joined array has in the pair. -/
def side (a : Nat) (h : a < 256) : Fin 2 := ⟨a / 128, by omega⟩

/-- The compressed activations, the two devices' column halves side by side. -/
def Cf (c : Dev nD) : Vec F S1024x256 .bf16 := fun i =>
  CO m (mate c (side (i 1).val (idx2_lt1 i))) (ix2 (n0 := 1024) (n1 := 128) ⟨(i 0).val, idx2_lt0 i⟩ ⟨(i 1).val % 128, Nat.mod_lt _ (by decide)⟩)
/-- The up-projections, the two devices' row halves one over the other. -/
def Kf (c : Dev nD) : Vec F S256x2048 .bf16 := fun i =>
  KO m (mate c (side (i 0).val (idx2_lt0 i))) (ix2 (n0 := 128) (n1 := 2048) ⟨(i 0).val % 128, Nat.mod_lt _ (by decide)⟩ ⟨(i 1).val, idx2_lt1 i⟩)
def Vf (c : Dev nD) : Vec F S256x2048 .bf16 := fun i =>
  VO m (mate c (side (i 0).val (idx2_lt0 i))) (ix2 (n0 := 128) (n1 := 2048) ⟨(i 0).val % 128, Nat.mod_lt _ (by decide)⟩ ⟨(i 1).val, idx2_lt1 i⟩)

/-- The rows of batch `b` of an array over the `2 · 512` tokens. -/
def rows {n : Nat} {e : EltTy} (b : Fin 2) (X : Vec F ⟨2, ![1024, n]⟩ e) : Vec F ⟨2, ![512, n]⟩ e := fun j =>
  X (ix2 (n0 := 1024) (n1 := n) ⟨512 * b.val + (j 0).val, by have := idx2_lt0 j; omega⟩ (j 1))

/-- What the head stage makes for head `h` of a batch, from the batch's compressed activations, the two up-projections, and
    the batch's rotary keys, queries and rotary queries. -/
def headPay (v24 : Vec F S512x256 .bf16) (v25 v28 : Vec F S256x2048 .bf16) (v32 : Vec F S512x32 .bf16) (v34 : Vec F S512x2048 .bf16)
    (v36 : Vec F S512x512 .bf16) (h : Fin 16) : FVec F S512x128 .bf16 :=
  let v27 := k0_pay11 v24 v25
  let v30 := k0_pay12 v24 v28
  let v37 := k0_pay13 (F := F)
  match h.val with
  | 0 => k0_pay14 v24 v25 v28 v32 v34 v36
  | 1 => k0_pay15 v27 v30 v32 v34 v36 v37
  | 2 => k0_pay16 v27 v30 v32 v34 v36 v37
  | 3 => k0_pay19 v30 v32 v37 (k0_pay17 v34 v36 v37) (k0_pay18 v27)
  | 4 => k0_pay20 v27 v30 v32 v34 v36 v37
  | 5 => k0_pay22 v30 (k0_pay21 v27 v32 v34 v36 v37)
  | 6 => k0_pay23 v27 v30 v32 v34 v36 v37
  | 7 => k0_pay26 v30 (k0_pay24 v27 v32 v34 v36 v37) (k0_pay25 v27 v32 v34 v36 v37)
  | 8 => k0_pay27 v27 v30 v32 v34 v36 v37
  | 9 => k0_pay30 v30 (k0_pay28 v27 v32 v34 v36 v37) (k0_pay29 v27 v32 v34 v36 v37)
  | 10 => k0_pay31 v27 v30 v32 v34 v36 v37
  | 11 => k0_pay35 (k0_pay33 v27 v30 v32 v34 v36 v37) (k0_pay34 v27 v32 v34 v36 v37)
  | 12 => k0_pay36 v27 v30 v32 v34 v36 v37
  | 13 => k0_pay38 (k0_pay37 v27 v30 v32 v34 v36 v37)
  | 14 => k0_pay39 v27 v30 v32 v34 v36 v37
  | _ => k0_pay40 v27 v30 v32 v34 v36 v37

def headOut (c : Dev nD) (b : Fin 2) (h : Fin 16) : FVec F S512x128 .bf16 :=
  headPay (rows b (Cf m c)) (Kf m c) (Vf m c) (rows b (KR m c)) (rows b (Qv m c)) (rows b (QR m c)) h

/-- The attention output of a batch, head by head. -/
def OSf (c : Dev nD) (b : Fin 2) : Vec F S512x2048 .bf16 := fun i =>
  headOut m c b ⟨(i 1).val / 128, by have := idx2_lt1 i; omega⟩ (ix2 (n0 := 512) (n1 := 128) ⟨(i 0).val, idx2_lt0 i⟩ ⟨(i 1).val % 128, Nat.mod_lt _ (by decide)⟩)

/-- The result block of a batch. -/
def outB (c : Dev nD) (b : Fin 2) : Vec F S1x512x2048 .f32 := k0_pay5 (OSf m c b) (Wv m c)

/-! ## The bands of the arrays above -/

omit [FloatOps F] in
/-- Two indices of a rank-2 shape with equal coordinates. -/
theorem idx2_ext {n0 n1 : Nat} {i j : (⟨2, ![n0, n1]⟩ : Shape).Idx} (h0 : (i 0).val = (j 0).val) (h1 : (i 1).val = (j 1).val) : i = j :=
  funext fun a => by fin_cases a <;> [exact Fin.ext h0; exact Fin.ext h1]

theorem Qv_band (c : Dev nD) (t : Fin grid0.N) (n : Nat) (hn : n = 256 * t.val) (j : S1024x256.Idx) (i : S1024x2048.Idx) (h0 : (i 0).val = (j 0).val)
    (h1 : (i 1).val = n + (j 1).val) : QB m c t j = Qv m c i := by
  have hj : (j 1).val < 256 := idx2_lt1 j
  unfold Qv
  have e : band (i 1).val (idx2_lt1 i) = t := Fin.ext (by show (i 1).val / 256 = t.val; omega)
  rw [e]
  exact congrArg _ (idx2_ext h0.symm (by show (j 1).val = (i 1).val % 256; omega))

theorem Wv_band (c : Dev nD) (t : Fin grid0.N) (n : Nat) (hn : n = 256 * t.val) (j : S2048x256.Idx) (i : S2048x2048.Idx) (h0 : (i 0).val = (j 0).val)
    (h1 : (i 1).val = n + (j 1).val) : WOB m c t j = Wv m c i := by
  have hj : (j 1).val < 256 := idx2_lt1 j
  unfold Wv
  have e : band (i 1).val (idx2_lt1 i) = t := Fin.ext (by show (i 1).val / 256 = t.val; omega)
  rw [e]
  exact congrArg _ (idx2_ext h0.symm (by show (j 1).val = (i 1).val % 256; omega))

theorem OSf_band (c : Dev nD) (b : Fin 2) (h : Fin 16) (n : Nat) (hn : n = 128 * h.val) (j : S512x128.Idx) (i : S512x2048.Idx) (h0 : (i 0).val = (j 0).val)
    (h1 : (i 1).val = n + (j 1).val) : headOut m c b h j = OSf m c b i := by
  have hj : (j 1).val < 128 := idx2_lt1 j
  unfold OSf
  have e : (⟨(i 1).val / 128, by have := idx2_lt1 i; omega⟩ : Fin 16) = h := Fin.ext (by show (i 1).val / 128 = h.val; omega)
  rw [e]
  exact congrArg _ (idx2_ext h0.symm (by show (j 1).val = (i 1).val % 128; omega))

theorem Cf_half (c : Dev nD) (p : Fin 2) (j : S1024x128.Idx) (i : S1024x256.Idx) (h0 : (i 0).val = (j 0).val)
    (h1 : (i 1).val = 128 * p.val + (j 1).val) : Cf m c i = CO m (mate c p) j := by
  have hj : (j 1).val < 128 := idx2_lt1 j
  unfold Cf
  have e : side (i 1).val (idx2_lt1 i) = p := Fin.ext (by show (i 1).val / 128 = p.val; omega)
  rw [e]
  exact congrArg _ (idx2_ext h0 (by show (i 1).val % 128 = (j 1).val; omega))

theorem Kf_half (c : Dev nD) (p : Fin 2) (j : S128x2048.Idx) (i : S256x2048.Idx) (h0 : (i 0).val = 128 * p.val + (j 0).val)
    (h1 : (i 1).val = (j 1).val) : Kf m c i = KO m (mate c p) j := by
  have hj : (j 0).val < 128 := idx2_lt0 j
  unfold Kf
  have e : side (i 0).val (idx2_lt0 i) = p := Fin.ext (by show (i 0).val / 128 = p.val; omega)
  rw [e]
  exact congrArg _ (idx2_ext (by show (i 0).val % 128 = (j 0).val; omega) h1)

theorem Vf_half (c : Dev nD) (p : Fin 2) (j : S128x2048.Idx) (i : S256x2048.Idx) (h0 : (i 0).val = 128 * p.val + (j 0).val)
    (h1 : (i 1).val = (j 1).val) : Vf m c i = VO m (mate c p) j := by
  have hj : (j 0).val < 128 := idx2_lt0 j
  unfold Vf
  have e : side (i 0).val (idx2_lt0 i) = p := Fin.ext (by show (i 0).val / 128 = p.val; omega)
  rw [e]
  exact congrArg _ (idx2_ext (by show (i 0).val % 128 = (j 0).val; omega) h1)

end Cert.Mla

end
-- ==== Proof.Protocol.lean ====
/-
  The protocol the devices follow, and what a device holds between grid points.

  Seven semaphore cells a device: the barrier (0), three send cells (1, 2, 3) and three receive cells (4, 5, 6), for the
  compressed activations, the key up-projection and the value up-projection in this order. Every cell has ONE round.

    cell        who signals, how much                 who waits                 what the wait hands over
    barrier c   `peer c`, 1, at its point 0           `c`, at its point 0       `peer c`'s three landing halves
    send j c    `c`'s own copy's departure            `c`, at its point 7       `c`'s own half, as computed
    recv j c    `peer c`'s copy's arrival             `c`, at its point 7       `c`'s other half, holding what `peer c` computed

  Levels: staging and send cells 0, barrier 1, receive cells 2; after point 0 a device owes nothing.
-/
module

public import proofs.«01_k».proof.Proof.Contents
public import proofs.«01_k».proof.Proof.Gen.KernelIdeal.Launch

@[expose] public section

noncomputable section

namespace Cert.Mla

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The halves -/

theorem inb_col (p : Fin 2) : ∀ a, (![0, 128 * p.val] : Fin 2 → Nat) a + S1024x128.size a ≤ S1024x256.size a := by revert p; decide
theorem inb_row (p : Fin 2) : ∀ a, (![128 * p.val, 0] : Fin 2 → Nat) a + S128x2048.size a ≤ S256x2048.size a := by revert p; decide

/-- The column half `p` of the compressed activations. -/
abbrev cH (p : Fin 2) : Memref sig .tc .vmem S1024x128 .bf16 :=
  (Memref.whole cc0_scratch1 : Memref sig .tc .vmem S1024x256 .bf16).slice (Rect.unit (s := S1024x256) ![0, 128 * p.val] S1024x128.size (inb_col p)) (fun _ => rfl)
/-- The row half `p` of the key up-projection. -/
abbrev kH (p : Fin 2) : Memref sig .tc .vmem S128x2048 .bf16 :=
  (Memref.whole cc0_scratch2 : Memref sig .tc .vmem S256x2048 .bf16).slice (Rect.unit (s := S256x2048) ![128 * p.val, 0] S128x2048.size (inb_row p)) (fun _ => rfl)
/-- The row half `p` of the value up-projection. -/
abbrev vH (p : Fin 2) : Memref sig .tc .vmem S128x2048 .bf16 :=
  (Memref.whole cc0_scratch3 : Memref sig .tc .vmem S256x2048 .bf16).slice (Rect.unit (s := S256x2048) ![128 * p.val, 0] S128x2048.size (inb_row p)) (fun _ => rfl)

abbrev cN : ℕ := (cH 0).view.dmaCredit
abbrev kN : ℕ := (kH 0).view.dmaCredit
abbrev vN : ℕ := (vH 0).view.dmaCredit
theorem cN_pos : 0 < cN := View.dmaCredit_pos _ (by decide)
theorem kN_pos : 0 < kN := View.dmaCredit_pos _ (by decide)
theorem vN_pos : 0 < vN := View.dmaCredit_pos _ (by decide)

/-! ## The cells -/

abbrev barS : Sem sig := (SemArray.scalar (sig.barrier 0 rfl) : Sems sig S_).sem
abbrev snd0 : DmaSem sig := ((cc0_scratch9.slice (Rect.unit (s := S3) ![0] S1.size inb_S3_S1_0)).squeeze S_ squeezes_S1_S_).sem
abbrev snd1 : DmaSem sig := ((cc0_scratch9.slice (Rect.unit (s := S3) ![1] S1.size inb_S3_S1_1)).squeeze S_ squeezes_S1_S_).sem
abbrev snd2 : DmaSem sig := ((cc0_scratch9.slice (Rect.unit (s := S3) ![2] S1.size inb_S3_S1_2)).squeeze S_ squeezes_S1_S_).sem
abbrev rcv0 : DmaSem sig := ((cc0_scratch10.slice (Rect.unit (s := S3) ![0] S1.size inb_S3_S1_0)).squeeze S_ squeezes_S1_S_).sem
abbrev rcv1 : DmaSem sig := ((cc0_scratch10.slice (Rect.unit (s := S3) ![1] S1.size inb_S3_S1_1)).squeeze S_ squeezes_S1_S_).sem
abbrev rcv2 : DmaSem sig := ((cc0_scratch10.slice (Rect.unit (s := S3) ![2] S1.size inb_S3_S1_2)).squeeze S_ squeezes_S1_S_).sem

abbrev csem : Fin 7 → SemLoc sig := fun
  | 0 => .reg barS | 1 => .dma snd0 | 2 => .dma snd1 | 3 => .dma snd2 | 4 => .dma rcv0 | 5 => .dma rcv1 | 6 => .dma rcv2
abbrev kcell (ck : Dev nD × Fin 7) : GSem nD τ sig := ((ck.1 : Thread nD τ), csem ck.2)

/-- Which of the seven a semaphore is. -/
def idx (s : SemLoc sig) : Option (Fin 7) := (List.finRange 7).find? fun k => decide (csem k = s)
theorem idx_csem : ∀ k : Fin 7, idx (csem k) = some k := by decide
theorem csem_injective : Function.Injective csem := fun a b h => by
  have := congrArg idx h; rw [idx_csem, idx_csem] at this; exact Option.some.inj this

/-! ## The schedule -/

variable (m : (ℓ : Loc nD τ sig) → Buf (Elt F) ℓ)

/-- What the wait on cell `k` of device `c` hands over. -/
def pay (c : Dev nD) : Fin 7 → sProp 𝕄 := fun
  | 0 => iprop((∃ f, owns (peer c : Thread nD τ) (cH (par c)) fullShare f) ∗ (∃ f, owns (peer c : Thread nD τ) (kH (par c)) fullShare f)
      ∗ ∃ f, owns (peer c : Thread nD τ) (vH (par c)) fullShare f)
  | 1 => owns (c : Thread nD τ) (cH (par c)) fullShare (CO m c)
  | 2 => owns (c : Thread nD τ) (kH (par c)) fullShare (KO m c)
  | 3 => owns (c : Thread nD τ) (vH (par c)) fullShare (VO m c)
  | 4 => owns (c : Thread nD τ) (cH (par (peer c))) fullShare (CO m (peer c))
  | 5 => owns (c : Thread nD τ) (kH (par (peer c))) fullShare (KO m (peer c))
  | 6 => owns (c : Thread nD τ) (vH (par (peer c))) fullShare (VO m (peer c))

instance pay_storable (c : Dev nD) (k : Fin 7) : BI.Storable (upEmb : UEmb _ 𝕄) (pay m c k) := by
  fin_cases k <;> unfold pay <;> infer_instance

/-- How much it waits for. -/
def amt : Fin 7 → ℕ := fun | 0 => 1 | 1 => cN | 2 => kN | 3 => vN | 4 => cN | 5 => kN | 6 => vN
theorem amt_pos (k : Fin 7) : 0 < amt k := by
  fin_cases k <;> [exact Nat.one_pos; exact cN_pos; exact kN_pos; exact vN_pos; exact cN_pos; exact kN_pos; exact vN_pos]

def sched : Rounds.Schedule (GSem nD τ sig) Unit 𝕄 where
  duties g r := if r = 0 ∧ g.1.2 = .tc ∧ (idx g.2).isSome = true then {()} else ∅
  unitless _ := False
  amount g _ _ := (idx g.2).elim 1 amt
  payload g _ _ := (idx g.2).elim iprop(emp) (pay m g.1.1)
  amount_pos g _ _ _ := by
    cases h : idx g.2 with
    | none => exact Nat.one_pos
    | some k => exact amt_pos k

instance sched_payload_storable (g : GSem nD τ sig) (r : ℕ) (d : Unit) : BI.Storable (upEmb : UEmb _ 𝕄) ((sched (F := F) m).payload g r d) := by
  show BI.Storable upEmb ((idx g.2).elim iprop(emp) (pay m g.1.1))
  cases h : idx g.2 with
  | none => show BI.Storable upEmb iprop(emp); infer_instance
  | some k => exact pay_storable m g.1.1 k

section Tables
variable (c : Dev nD) (k : Fin 7)

theorem duties_at : (sched (F := F) m).duties (kcell (c, k)) 0 = {()} := by
  dsimp only [sched]; exact if_pos ⟨rfl, rfl, by rw [idx_csem]; rfl⟩
theorem mem_duties : () ∈ (sched (F := F) m).duties (kcell (c, k)) 0 := by rw [duties_at]; exact Finset.mem_singleton_self _
theorem duties_later (g : GSem nD τ sig) : ∀ r, 1 ≤ r → (sched (F := F) m).duties g r = ∅ :=
  fun r hr => by dsimp only [sched]; exact if_neg fun h => by omega
theorem amount_at (u : Unit) : (sched (F := F) m).amount (kcell (c, k)) 0 u = amt k := by
  dsimp only [sched]; rw [idx_csem]; rfl
theorem expect_at : (sched (F := F) m).expect (kcell (c, k)) 0 = amt k := by
  unfold Schedule.expect Schedule.amountOf; rw [duties_at, Finset.sum_singleton, amount_at]
theorem payload_at (u : Unit) : (sched (F := F) m).payload (kcell (c, k)) 0 u = pay m c k := by
  dsimp only [sched]; rw [idx_csem]; rfl
theorem rest_at : bigSep ((sched (F := F) m).duties (kcell (c, k)) 0 \ ∅) (fun u => (sched (F := F) m).payload (kcell (c, k)) 0 u) = pay m c k := by
  rw [Finset.sdiff_empty, duties_at, bigSep_singleton, payload_at]
end Tables

/-! ## What a device owes; the levels -/

/-- What a device owes once it has signalled the barrier: the credits of its three copies' arrivals. -/
def O₁ (c : Dev nD) : CellTallies nD τ sig Unit :=
  (tallyAt (kcell (peer c, 6)) () vN + tallyAt (kcell (peer c, 5)) () kN) + tallyAt (kcell (peer c, 4)) () cN
/-- What it owes at launch: a unit on its peer's barrier besides. -/
def O₀ (c : Dev nD) : CellTallies nD τ sig Unit := O₁ c + tallyAt (kcell (peer c, 0)) () 1

def L (g : GSem nD τ sig) : Finset Unit := if g.1.2 = .tc then {()} else ∅
/-- The level of a semaphore. -/
def lev (s : SemLoc sig) : ℕ := (idx s).elim 0 (fun k => if k.val = 0 then 1 else if 4 ≤ k.val then 2 else 0)
def lv (g : GSem nD τ sig) (_ : Unit) : ℕ := lev g.2
theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) : ∃ k : Fin 7, 4 ≤ k.val ∧ g = kcell (peer c, k) := by
  unfold O₁ at h
  rw [Pi.add_apply, Finsupp.add_apply, Pi.add_apply, Finsupp.add_apply, tallyAt_apply, tallyAt_apply, tallyAt_apply] at h
  by_contra hn
  have hk (k : Fin 7) (h4 : 4 ≤ k.val) : ¬ (g = kcell (peer c, k) ∧ u = ()) := fun h' => hn ⟨k, h4, h'.1⟩
  rw [if_neg (hk 6 (by decide)), if_neg (hk 5 (by decide)), if_neg (hk 4 (by decide))] at h
  exact Nat.lt_irrefl 0 h

theorem O₀_pos {c : Dev nD} {g : GSem nD τ sig} {u : Unit} (h : 0 < O₀ c g u) : ∃ k : Fin 7, (4 ≤ k.val ∨ k.val = 0) ∧ g = kcell (peer c, k) := by
  by_cases h1 : 0 < O₁ c g u
  · obtain ⟨k, hk, he⟩ := O₁_pos h1; exact ⟨k, .inl hk, he⟩
  · refine ⟨0, .inr rfl, ?_⟩
    unfold O₀ at h
    rw [Pi.add_apply, Finsupp.add_apply, Nat.eq_zero_of_not_pos h1, Nat.zero_add, tallyAt_apply] at h
    by_contra hn
    rw [if_neg fun h' => hn h'.1] at h
    exact Nat.lt_irrefl 0 h

theorem lev_recv : ∀ k : Fin 7, 4 ≤ k.val → lev (csem k) = 2 := by decide
theorem lev_pos : ∀ k : Fin 7, (4 ≤ k.val ∨ k.val = 0) → 0 < lev (csem k) := by decide
theorem lev_bar : lev (csem 0) = 1 := by decide

/-- A wait on a cell of level 0 — a staging cell — under what is owed at launch or nothing. -/
theorem mayWait_stage (c : Dev nD) (s : SemLoc sig) (hs : lev s = 0) (O : CellTallies nD τ sig Unit) (hO : O = O₀ c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp, L_tc]; exact Finset.mem_singleton_self _)
      (fun g u hg => by obtain ⟨k, hk, rfl⟩ := O₀_pos hg; rw [L_tc]; exact Finset.mem_singleton_self _)
      (fun p hp => by rw [Finset.mem_singleton.mp hp]; exact hs.le)
      (fun g u hg => by obtain ⟨k, hk, rfl⟩ := O₀_pos hg; exact lev_pos k hk)
  · rw [MayWait_zero]; iintro -; iempintro

/-- The wait on the barrier, owing the three arrivals. -/
theorem mayWait_bar (c : Dev nD) : (levAts L lv : sProp 𝕄) ⊢ MayWait (c : Thread nD τ) (csem 0) () (O₁ c) :=
  MayOwe.of_cut (L := L) (lev := lv) 1 (fun p hp => by rw [Finset.mem_singleton.mp hp, L_tc]; exact Finset.mem_singleton_self _)
    (fun g u hg => by obtain ⟨k, hk, rfl⟩ := O₁_pos hg; rw [L_tc]; exact Finset.mem_singleton_self _)
    (fun p hp => by rw [Finset.mem_singleton.mp hp]; exact lev_bar.le)
    (fun g u hg => by obtain ⟨k, hk, rfl⟩ := O₁_pos hg; show 1 < lev (csem k); rw [lev_recv k hk]; decide)

/-! ## What a device holds between grid points -/

/-- Every cell's invariant, and that every cell has reached its round. -/
def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) : records m K ⊢ cellInv ER (sched m) (K ck) (kcell ck) :=
  have h : (bigSep Finset.univ fun ck : Dev nD × Fin 7 => (cellInv ER (sched m) (K ck) (kcell ck) : sProp 𝕄)) ⊢ cellInv ER (sched m) (K ck) (kcell ck) :=
    bigSep_elim (Finset.mem_univ ck)
  show iprop(_ ∗ _) ⊢ _ by
    iintro ⟨H, -⟩
    iapply h
    iexact H
theorem reached_at (K : Dev nD × Fin 7 → ℕ) (ck : Dev nD × Fin 7) : records m K ⊢ reached ER (kcell ck) 0 :=
  have h : (bigSep Finset.univ fun ck : Dev nD × Fin 7 => (reached ER (kcell ck) 0 : sProp 𝕄)) ⊢ reached ER (kcell ck) 0 :=
    bigSep_elim (Finset.mem_univ ck)
  show iprop(_ ∗ _) ⊢ _ by
    iintro ⟨-, H⟩
    iapply h
    iexact H

/-- A device's positions on its own cells. -/
def poss (c : Dev nD) : sProp 𝕄 :=
  iprop(atPos ER (kcell (c, 0)) 0 ∅ 0 ∗ atPos ER (kcell (c, 1)) 0 ∅ 0 ∗ atPos ER (kcell (c, 2)) 0 ∅ 0 ∗ atPos ER (kcell (c, 3)) 0 ∅ 0
    ∗ atPos ER (kcell (c, 4)) 0 ∅ 0 ∗ atPos ER (kcell (c, 5)) 0 ∅ 0 ∗ atPos ER (kcell (c, 6)) 0 ∅ 0)
/-- The tokens of the duties it pays: its peer's barrier, its own copies' departures and its peer's arrivals. -/
def payToks (c : Dev nD) : sProp 𝕄 :=
  iprop(dutyTok ER (kcell (peer c, 0)) 0 ()
    ∗ (dutyTok ER (kcell (c, 1)) 0 () ∗ dutyTok ER (kcell (c, 2)) 0 () ∗ dutyTok ER (kcell (c, 3)) 0 ())
    ∗ dutyTok ER (kcell (peer c, 4)) 0 () ∗ dutyTok ER (kcell (peer c, 5)) 0 () ∗ dutyTok ER (kcell (peer c, 6)) 0 ())
def ghost (K : Dev nD × Fin 7 → ℕ) (c : Dev nD) : sProp 𝕄 := iprop(records m K ∗ poss c ∗ payToks c)

def recvCreds (c : Dev nD) : sProp 𝕄 :=
  iprop(cred (tallyAt (kcell (c, 4)) () cN) ∗ cred (tallyAt (kcell (c, 5)) () kN) ∗ cred (tallyAt (kcell (c, 6)) () vN))

/-- What a device starts with. -/
def start (c : Dev nD) : sProp 𝕄 :=
  iprop((∃ K, ghost m K c) ∗ cred (tallyAt (kcell (c, 0)) () 1) ∗ recvCreds c ∗ levAts L lv)

/-- What it holds of the exchange from point 1 to point 7: the six copies' cells and their credits, the barrier closed. -/
def flights (c : Dev nD) : sProp 𝕄 :=
  iprop(∃ K, records m K
    ∗ (atPos ER (kcell (c, 1)) 0 ∅ 0 ∗ atPos ER (kcell (c, 2)) 0 ∅ 0 ∗ atPos ER (kcell (c, 3)) 0 ∅ 0
      ∗ atPos ER (kcell (c, 4)) 0 ∅ 0 ∗ atPos ER (kcell (c, 5)) 0 ∅ 0 ∗ atPos ER (kcell (c, 6)) 0 ∅ 0)
    ∗ (cred (tallyAt (kcell (c, 1)) () cN) ∗ cred (tallyAt (kcell (c, 2)) () kN) ∗ cred (tallyAt (kcell (c, 3)) () vN))
    ∗ recvCreds c ∗ semVal (kcell (c, 0)) 0)

/-- All its cells closed. -/
def closed (c : Dev nD) : sProp 𝕄 :=
  iprop(semVal (kcell (c, 0)) 0 ∗ semVal (kcell (c, 1)) 0 ∗ semVal (kcell (c, 2)) 0 ∗ semVal (kcell (c, 3)) 0
    ∗ semVal (kcell (c, 4)) 0 ∗ semVal (kcell (c, 5)) 0 ∗ semVal (kcell (c, 6)) 0)

/-- A buffer owned whole at contents `X`. -/
abbrev at_ (c : Dev nD) (b : Ref sig .tc) (X : b.ty.Contents (Elt F)) : sProp 𝕄 := owns (c : Thread nD τ) (Memref.whole b) fullShare X
/-- A rank-2 memref owned at contents that are `G`'s on the columns below `n`. -/
def upto (c : Dev nD) {a b : Nat} {e : EltTy} (M : Memref sig .tc .vmem ⟨2, ![a, b]⟩ e) (G : (⟨2, ![a, b]⟩ : Shape).Idx → Elt F e) (n : ℕ) : sProp 𝕄 :=
  iprop(∃ f, ⌜∀ i : (⟨2, ![a, b]⟩ : Shape).Idx, (i 1).val < n → f i = G i⌝ ∗ owns (c : Thread nD τ) M fullShare f)

abbrev xbM : Memref sig .tc .vmem S1024x2048 .bf16 := Memref.whole cc0_scratch0
abbrev cM : Memref sig .tc .vmem S1024x256 .bf16 := Memref.whole cc0_scratch1
abbrev kM : Memref sig .tc .vmem S256x2048 .bf16 := Memref.whole cc0_scratch2
abbrev vM : Memref sig .tc .vmem S256x2048 .bf16 := Memref.whole cc0_scratch3
abbrev qM : Memref sig .tc .vmem S1024x2048 .bf16 := Memref.whole cc0_scratch4
abbrev qrM : Memref sig .tc .vmem S1024x512 .bf16 := Memref.whole cc0_scratch5
abbrev krM : Memref sig .tc .vmem S1024x32 .bf16 := Memref.whole cc0_scratch6
abbrev woM : Memref sig .tc .vmem S2048x2048 .bf16 := Memref.whole cc0_scratch7
abbrev oM : Memref sig .tc .vmem S512x2048 .bf16 := Memref.whole cc0_scratch8

/-- The activations as cast, the rotary queries and the rotary keys. -/
def projs (c : Dev nD) : sProp 𝕄 :=
  iprop(owns (c : Thread nD τ) xbM fullShare (XB m c) ∗ owns (c : Thread nD τ) qrM fullShare (QR m c) ∗ owns (c : Thread nD τ) krM fullShare (KR m c))
/-- The bands filled before point `n`. -/
def bands (c : Dev nD) (n : ℕ) : sProp 𝕄 := iprop(upto c qM (Qv m c) (256 * n) ∗ upto c woM (Wv m c) (256 * n))
def outAny (c : Dev nD) : sProp 𝕄 := iprop(∃ f, owns (c : Thread nD τ) oM fullShare f)

/-- Before point 0: the scratch buffers at any contents. -/
def Φ₀ (c : Dev nD) : sProp 𝕄 :=
  iprop(start m c ∗ (∃ f, owns (c : Thread nD τ) xbM fullShare f) ∗ (∃ f, owns (c : Thread nD τ) cM fullShare f) ∗ (∃ f, owns (c : Thread nD τ) kM fullShare f)
    ∗ (∃ f, owns (c : Thread nD τ) vM fullShare f) ∗ (∃ f, owns (c : Thread nD τ) qM fullShare f) ∗ (∃ f, owns (c : Thread nD τ) qrM fullShare f)
    ∗ (∃ f, owns (c : Thread nD τ) krM fullShare f) ∗ (∃ f, owns (c : Thread nD τ) woM fullShare f) ∗ outAny c)
/-- Before point `n`, `1 ≤ n ≤ 7`: the copies in flight. -/
def Φmid (c : Dev nD) (n : ℕ) : sProp 𝕄 := iprop(projs m c ∗ bands m c n ∗ outAny c ∗ flights m c)
/-- From point 8 on: everything in place. -/
def Φend (c : Dev nD) : sProp 𝕄 :=
  iprop(projs m c ∗ owns (c : Thread nD τ) cM fullShare (Cf m c) ∗ owns (c : Thread nD τ) kM fullShare (Kf m c) ∗ owns (c : Thread nD τ) vM fullShare (Vf m c)
    ∗ owns (c : Thread nD τ) qM fullShare (Qv m c) ∗ owns (c : Thread nD τ) woM fullShare (Wv m c) ∗ outAny c ∗ closed c)

/-- The batch of a point of the last two. -/
def batch (t : Fin cfg0.N) : Fin 2 := if t.val = 9 then 1 else 0

def dats (_ : Fin 1) (c : Dev nD) : Dat τ (Elt F) Unit ℕ UU ℕ cfg0 c where
  A w := V m c (Pipeline.arrRef spec0 w)
  after w t := match w with
    | ⟨0, _⟩ => iblk m c (0 : Fin 9) t
    | ⟨1, _⟩ => iblk m c (1 : Fin 9) t
    | ⟨2, _⟩ => iblk m c (2 : Fin 9) t
    | ⟨3, _⟩ => iblk m c (3 : Fin 9) t
    | ⟨4, _⟩ => iblk m c (4 : Fin 9) t
    | ⟨5, _⟩ => iblk m c (5 : Fin 9) t
    | ⟨6, _⟩ => iblk m c (6 : Fin 9) t
    | ⟨7, _⟩ => iblk m c (7 : Fin 9) t
    | ⟨8, _⟩ => outB m c (batch t)
  Φ t := if t.val = 0 then Φ₀ m c else if t.val ≤ 7 then Φmid m c t.val else Φend m c
  q _ := fullShare
  owed t := if t.val = 0 then O₀ c else 0

end Cert.Mla

end
-- ==== Proof.Rules.lean ====
/-
  The rules the body is run with: filling the arrays that are made in column bands, the two halves of an exchanged array
  taken apart and put together, the copy of a half to the peer, and the wait on a copy's cell.
-/
module

public import proofs.«01_k».proof.Proof.Protocol

@[expose] public section

noncomputable section

namespace Cert.Mla

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Column bands -/

section Bands

variable (c : Dev nD) {a b : Nat} {e : EltTy} (M : Memref sig .tc .vmem ⟨2, ![a, b]⟩ e) (G : (⟨2, ![a, b]⟩ : Shape).Idx → Elt F e) (n : ℕ) {α : Type}

/-- A load whose value is not used. -/
theorem wp_load_upto {r : Rect ⟨2, ![a, b]⟩} {hl : M.view.LoadsAt r.toLoadRect}
    {k : (r.shape.Idx → Elt F e) → Prog (TpuEff nD τ sig (Elt F) Λ₀ .tc) α} {Q : α → sProp 𝕄} :
    (upto c M G n : sProp 𝕄)
      ⊢ iprop((∀ v, upto c M G n -∗ wp frame (wpE (defs₀ (F := F)) 𝒱₀ (c : Thread nD τ) none) Set.univ (k v) Q)
        -∗ wp frame (wpE (defs₀ (F := F)) 𝒱₀ (c : Thread nD τ) none) Set.univ (.op (.load M r.toLoadRect hl) k) Q) := by
  unfold upto
  iintro ⟨%f, %hf, H⟩ Hk
  iapply (wp_load_owns c M f) $$ H
  iintro H
  ispecialize Hk $$ %(fun j => f (r.emb j))
  iapply Hk
  iexists f
  isplitr; · ipureintro; exact hf
  iexact H

/-- The store of the next band. -/
theorem wp_store_upto {w : ℕ} {off : Fin 2 → Nat} (ho : off = ![0, n]) {inb : ∀ x, off x + (⟨2, ![a, w]⟩ : Shape).size x ≤ (⟨2, ![a, b]⟩ : Shape).size x}
    {v : (⟨2, ![a, w]⟩ : Shape).Idx → Elt F e}
    (hv : ∀ (j : (⟨2, ![a, w]⟩ : Shape).Idx) (i : (⟨2, ![a, b]⟩ : Shape).Idx), (i 0).val = (j 0).val → (i 1).val = n + (j 1).val → v j = G i)
    (n' : ℕ) (hn' : n' = n + w)
    {hx : (M.access (Rect.unit (s := ⟨2, ![a, b]⟩) off (⟨2, ![a, w]⟩ : Shape).size inb)).Stores Finset.univ}
    {hm : (Finset.univ : Finset (Rect.unit (s := ⟨2, ![a, b]⟩) off (⟨2, ![a, w]⟩ : Shape).size inb).shape.Idx) = Finset.univ
      ∨ ∀ x, (Rect.unit (s := ⟨2, ![a, b]⟩) off (⟨2, ![a, w]⟩ : Shape).size inb).stride x = 1}
    {k : PUnit → Prog (TpuEff nD τ sig (Elt F) Λ₀ .tc) α} {Q : α → sProp 𝕄} :
    (upto c M G n : sProp 𝕄)
      ⊢ iprop((upto c M G n' -∗ wp frame (wpE (defs₀ (F := F)) 𝒱₀ (c : Thread nD τ) none) Set.univ (k ⟨⟩) Q)
        -∗ wp frame (wpE (defs₀ (F := F)) 𝒱₀ (c : Thread nD τ) none) Set.univ
            (.op (.store M (Rect.unit (s := ⟨2, ![a, b]⟩) off (⟨2, ![a, w]⟩ : Shape).size inb) v Finset.univ hx hm) k) Q) := by
  subst ho hn'
  unfold upto
  iintro ⟨%f, %hf, H⟩ Hk
  iapply (wp_store_owns c M f (r := Rect.unit (s := ⟨2, ![a, b]⟩) ![0, n] (⟨2, ![a, w]⟩ : Shape).size inb)) $$ H
  iintro H
  iapply Hk
  iexists ((Rect.unit (s := ⟨2, ![a, b]⟩) ![0, n] (⟨2, ![a, w]⟩ : Shape).size inb).overlay f v)
  isplitr
  · ipureintro
    intro i hi
    by_cases hm : i ∈ (Rect.unit (s := ⟨2, ![a, b]⟩) ![0, n] (⟨2, ![a, w]⟩ : Shape).size inb).set
    · rw [← Rect.map_emb_univ, Finset.mem_map] at hm
      obtain ⟨j, -, rfl⟩ := hm
      rw [Rect.overlay_emb]
      refine hv j _ ?_ ?_
      · rw [emb_unit_val]; exact Nat.zero_add _
      · rw [emb_unit_val]; rfl
    · rw [Rect.overlay_of_not_mem _ _ _ hm]
      refine hf i ?_
      by_contra hlt
      refine hm (Rect.mem_set_unit.mpr fun x => ?_)
      have h0 : (i 0).val < a := idx2_lt0 i
      fin_cases x
      · exact ⟨Nat.zero_le _, by show (i 0).val < 0 + a; omega⟩
      · exact ⟨Nat.le_of_not_lt hlt, hi⟩
  · iexact H

/-- Nothing is required of no column; -/
theorem upto_zero (f : (⟨2, ![a, b]⟩ : Shape).Idx → Elt F e) : (owns (c : Thread nD τ) M fullShare f : sProp 𝕄) ⊢ upto c M G 0 := by
  unfold upto
  iintro H
  iexists f
  isplitr; · ipureintro; exact fun i hi => absurd hi (Nat.not_lt_zero _)
  iexact H

/-- with every column filled the contents are the array's. -/
theorem upto_all (h : b ≤ n) : (upto c M G n : sProp 𝕄) ⊢ owns (c : Thread nD τ) M fullShare G := by
  unfold upto
  iintro ⟨%f, %hf, H⟩
  have : f = G := funext fun i => hf i (lt_of_lt_of_le (idx2_lt1 i) h)
  subst this
  iexact H

end Bands

/-! ## The halves -/

variable (m : (ℓ : Loc nD τ sig) → Buf (Elt F) ℓ)

/-- A sum over the two places of a pair, from any of them. -/
theorem bigSep_pair (Φ : Fin 2 → sProp 𝕄) (p q : Fin 2) (h : q ≠ p) : bigSep Finset.univ Φ = iprop(Φ p ∗ Φ q) :=
  bigSep_univ_eq_bigSepL [p, q] (by revert p q; decide) (by revert p q; decide) Φ

theorem col_disjoint (p q : Fin 2) (h : p ≠ q) : Disjoint (Rect.unit (s := S1024x256) ![0, 128 * p.val] S1024x128.size (inb_col p)).set
    (Rect.unit (s := S1024x256) ![0, 128 * q.val] S1024x128.size (inb_col q)).set := by
  rw [Finset.disjoint_left]
  intro i hp hq
  have h1 := Rect.mem_set_unit.mp hp (1 : Fin 2)
  have h2 := Rect.mem_set_unit.mp hq (1 : Fin 2)
  have e1 : 128 * p.val ≤ (i 1).val ∧ (i 1).val < 128 * p.val + 128 := h1
  have e2 : 128 * q.val ≤ (i 1).val ∧ (i 1).val < 128 * q.val + 128 := h2
  exact h (Fin.ext (by omega))
theorem col_cover : (Finset.univ : Finset (Fin 2)).biUnion (fun p => (Rect.unit (s := S1024x256) ![0, 128 * p.val] S1024x128.size (inb_col p)).set) = Finset.univ := by
  ext i
  simp only [Finset.mem_biUnion, Finset.mem_univ, true_and, iff_true]
  have h0 : (i 0).val < 1024 := idx2_lt0 i
  have h1 : (i 1).val < 256 := idx2_lt1 i
  refine ⟨⟨(i 1).val / 128, by omega⟩, Rect.mem_set_unit.mpr fun x => ?_⟩
  fin_cases x
  · exact ⟨Nat.zero_le _, by show (i 0).val < 0 + 1024; omega⟩
  · exact ⟨by show 128 * ((i 1).val / 128) ≤ (i 1).val; omega, by show (i 1).val < 128 * ((i 1).val / 128) + 128; omega⟩
theorem row_disjoint (p q : Fin 2) (h : p ≠ q) : Disjoint (Rect.unit (s := S256x2048) ![128 * p.val, 0] S128x2048.size (inb_row p)).set
    (Rect.unit (s := S256x2048) ![128 * q.val, 0] S128x2048.size (inb_row q)).set := by
  rw [Finset.disjoint_left]
  intro i hp hq
  have h1 := Rect.mem_set_unit.mp hp (0 : Fin 2)
  have h2 := Rect.mem_set_unit.mp hq (0 : Fin 2)
  have e1 : 128 * p.val ≤ (i 0).val ∧ (i 0).val < 128 * p.val + 128 := h1
  have e2 : 128 * q.val ≤ (i 0).val ∧ (i 0).val < 128 * q.val + 128 := h2
  exact h (Fin.ext (by omega))
theorem row_cover : (Finset.univ : Finset (Fin 2)).biUnion (fun p => (Rect.unit (s := S256x2048) ![128 * p.val, 0] S128x2048.size (inb_row p)).set) = Finset.univ := by
  ext i
  simp only [Finset.mem_biUnion, Finset.mem_univ, true_and, iff_true]
  have h0 : (i 0).val < 256 := idx2_lt0 i
  have h1 : (i 1).val < 2048 := idx2_lt1 i
  refine ⟨⟨(i 0).val / 128, by omega⟩, Rect.mem_set_unit.mpr fun x => ?_⟩
  fin_cases x
  · exact ⟨by show 128 * ((i 0).val / 128) ≤ (i 0).val; omega, by show (i 0).val < 128 * ((i 0).val / 128) + 128; omega⟩
  · exact ⟨Nat.zero_le _, by show (i 1).val < 0 + 2048; omega⟩

variable (c : Dev nD)

theorem cM_split (f : S1024x256.Idx → Elt F .bf16) : (owns (c : Thread nD τ) cM fullShare f : sProp 𝕄)
    ⊢ iprop((∃ g, owns (c : Thread nD τ) (cH (par c)) fullShare g) ∗ ∃ g, owns (c : Thread nD τ) (cH (par (peer c))) fullShare g) := by
  refine (owns_rects (c : Thread nD τ) cM fullShare (fun p : Fin 2 => Rect.unit (s := S1024x256) ![0, 128 * p.val] S1024x128.size (inb_col p))
    (fun _ _ => rfl) col_disjoint col_cover f).trans ?_
  rw [bigSep_pair _ (par c) (par (peer c)) (par_peer_ne c)]
  iintro ⟨H1, H2⟩
  isplitl [H1]
  · iexists _; iexact H1
  · iexists _; iexact H2
theorem kM_split (f : S256x2048.Idx → Elt F .bf16) : (owns (c : Thread nD τ) kM fullShare f : sProp 𝕄)
    ⊢ iprop((∃ g, owns (c : Thread nD τ) (kH (par c)) fullShare g) ∗ ∃ g, owns (c : Thread nD τ) (kH (par (peer c))) fullShare g) := by
  refine (owns_rects (c : Thread nD τ) kM fullShare (fun p : Fin 2 => Rect.unit (s := S256x2048) ![128 * p.val, 0] S128x2048.size (inb_row p))
    (fun _ _ => rfl) row_disjoint row_cover f).trans ?_
  rw [bigSep_pair _ (par c) (par (peer c)) (par_peer_ne c)]
  iintro ⟨H1, H2⟩
  isplitl [H1]
  · iexists _; iexact H1
  · iexists _; iexact H2
theorem vM_split (f : S256x2048.Idx → Elt F .bf16) : (owns (c : Thread nD τ) vM fullShare f : sProp 𝕄)
    ⊢ iprop((∃ g, owns (c : Thread nD τ) (vH (par c)) fullShare g) ∗ ∃ g, owns (c : Thread nD τ) (vH (par (peer c))) fullShare g) := by
  refine (owns_rects (c : Thread nD τ) vM fullShare (fun p : Fin 2 => Rect.unit (s := S256x2048) ![128 * p.val, 0] S128x2048.size (inb_row p))
    (fun _ _ => rfl) row_disjoint row_cover f).trans ?_
  rw [bigSep_pair _ (par c) (par (peer c)) (par_peer_ne c)]
  iintro ⟨H1, H2⟩
  isplitl [H1]
  · iexists _; iexact H1
  · iexists _; iexact H2

theorem cM_join : iprop(owns (c : Thread nD τ) (cH (par c)) fullShare (CO m c) ∗ owns (c : Thread nD τ) (cH (par (peer c))) fullShare (CO m (peer c)))
    ⊢ (owns (c : Thread nD τ) cM fullShare (Cf m c) : sProp 𝕄) := by
  refine .trans ?_ (owns_of_rects (c : Thread nD τ) cM fullShare (fun p : Fin 2 => Rect.unit (s := S1024x256) ![0, 128 * p.val] S1024x128.size (inb_col p))
    (fun _ _ => rfl) col_disjoint col_cover (Cf m c))
  rw [bigSep_pair _ (par c) (par (peer c)) (par_peer_ne c)]
  have h (p : Fin 2) : (fun j => Cf m c ((Rect.unit (s := S1024x256) ![0, 128 * p.val] S1024x128.size (inb_col p)).emb j)) = CO m (mate c p) :=
    funext fun j => Cf_half m c p j _ (by rw [emb_unit_val]; exact Nat.zero_add _) (by rw [emb_unit_val]; rfl)
  rw [h (par c), h (par (peer c)), mate_par, mate_peer]
theorem kM_join : iprop(owns (c : Thread nD τ) (kH (par c)) fullShare (KO m c) ∗ owns (c : Thread nD τ) (kH (par (peer c))) fullShare (KO m (peer c)))
    ⊢ (owns (c : Thread nD τ) kM fullShare (Kf m c) : sProp 𝕄) := by
  refine .trans ?_ (owns_of_rects (c : Thread nD τ) kM fullShare (fun p : Fin 2 => Rect.unit (s := S256x2048) ![128 * p.val, 0] S128x2048.size (inb_row p))
    (fun _ _ => rfl) row_disjoint row_cover (Kf m c))
  rw [bigSep_pair _ (par c) (par (peer c)) (par_peer_ne c)]
  have h (p : Fin 2) : (fun j => Kf m c ((Rect.unit (s := S256x2048) ![128 * p.val, 0] S128x2048.size (inb_row p)).emb j)) = KO m (mate c p) :=
    funext fun j => Kf_half m c p j _ (by rw [emb_unit_val]; rfl) (by rw [emb_unit_val]; exact Nat.zero_add _)
  rw [h (par c), h (par (peer c)), mate_par, mate_peer]
theorem vM_join : iprop(owns (c : Thread nD τ) (vH (par c)) fullShare (VO m c) ∗ owns (c : Thread nD τ) (vH (par (peer c))) fullShare (VO m (peer c)))
    ⊢ (owns (c : Thread nD τ) vM fullShare (Vf m c) : sProp 𝕄) := by
  refine .trans ?_ (owns_of_rects (c : Thread nD τ) vM fullShare (fun p : Fin 2 => Rect.unit (s := S256x2048) ![128 * p.val, 0] S128x2048.size (inb_row p))
    (fun _ _ => rfl) row_disjoint row_cover (Vf m c))
  rw [bigSep_pair _ (par c) (par (peer c)) (par_peer_ne c)]
  have h (p : Fin 2) : (fun j => Vf m c ((Rect.unit (s := S256x2048) ![128 * p.val, 0] S128x2048.size (inb_row p)).emb j)) = VO m (mate c p) :=
    funext fun j => Vf_half m c p j _ (by rw [emb_unit_val]; rfl) (by rw [emb_unit_val]; exact Nat.zero_add _)
  rw [h (par c), h (par (peer c)), mate_par, mate_peer]

/-! ## The copies -/

/-- The copy of a half to the peer: the half, owned at `X` here and at any contents there, leaves for the send cell `ks` here
    and the receive cell `kr` there. -/
theorem wp_copy (K : Dev nD × Fin 7 → ℕ) {s : Shape} {e : EltTy} (M M' : Memref sig .tc .vmem s e) (hM : M' = M) (n : Dev nD) (hn : n = peer c)
    (X Y : s.Idx → Elt F e) (ss sr : DmaSem sig) (ks kr : Fin 7) (hs : csem ks = .dma ss) (hr : csem kr = .dma sr)
    (N : ℕ) (hN : M.view.amount (.dma sr) = N) (h1 : amt ks = N) (h2 : amt kr = N)
    (hp1 : (owns (c : Thread nD τ) M fullShare X : sProp 𝕄) ⊢ pay m c ks) (hp2 : (owns (peer c : Thread nD τ) M fullShare X : sProp 𝕄) ⊢ pay m (peer c) kr)
    (O : CellTallies nD τ sig Unit) (W : Waits sig Unit)
    {hsc : M'.view.ref.isScScratch = false} {hsrc : M'.view.WordExact} {hdst : M'.view.WordExact}
    {hsem : DmaTarget.Typed .vmem (.dma sr) (.remote (Dev.tc n : Thread nD τ) M' (.dma ss) hsc)}
    {α : Type} {Q : α → sProp 𝕄} {k : PUnit → Prog (TpuEff nD τ sig (Elt F) Λ₀ .tc) α} :
    iprop(records m K ∗ owns (c : Thread nD τ) M fullShare X ∗ owns (peer c : Thread nD τ) M fullShare Y
        ∗ owes (c : Thread nD τ) (O + tallyAt (kcell (peer c, kr)) () N) W
        ∗ dutyTok ER (kcell (c, ks)) 0 () ∗ dutyTok ER (kcell (peer c, kr)) 0 ())
      ⊢ iprop(((cred (tallyAt (kcell (c, ks)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M' (.remote (Dev.tc n : Thread nD τ) M' (.dma ss) hsc) (.dma sr) hsrc hdst hsem) k) Q) := by
  subst hM hn
  iintro ⟨#HR, Hs, Hd, HO, Ht1, Ht2⟩ Hk
  ihave Hs' := (show (owns (c : Thread nD τ) M' fullShare X : sProp 𝕄)
      ⊢ iprop(∃ g, ⌜M'.view.read (Elt F) g = X⌝ ∗ M'.view.loc (c : Thread nD τ) ↦[M'.view.set]{fullShare} g) from .rfl) $$ Hs
  ihave Hd' := (show (owns (peer c : Thread nD τ) M' fullShare Y : sProp 𝕄)
      ⊢ iprop(∃ g, ⌜M'.view.read (Elt F) g = Y⌝ ∗ M'.view.loc (peer c : Thread nD τ) ↦[M'.view.set]{fullShare} g) from .rfl) $$ Hd
  icases Hs' with ⟨%fs, %hfs, Hs⟩
  icases Hd' with ⟨%fd, %hfd, Hd⟩
  have hks : (((c : Thread nD τ), SemLoc.dma ss) : GSem nD τ sig) = kcell (c, ks) := by show _ = ((c : Thread nD τ), csem ks); rw [hs]
  have hkr : (((peer c : Thread nD τ), SemLoc.dma sr) : GSem nD τ sig) = kcell (peer c, kr) := by show _ = ((peer c : Thread nD τ), csem kr); rw [hr]
  rw [← hks, ← hkr]
  iapply (Rounds.wp_send_pointsTo 𝒱₀ ER (sched m) (c : Thread nD τ) none (κ₁ := K (c, ks)) (κ₂ := K (peer c, kr))
    (r₁ := 0) (r₂ := 0) (d₁ := ()) (d₂ := ()) (fs := fs) (fd := fd)
    (by rw [hks]; exact mem_duties m c ks) (by rw [hkr]; exact mem_duties m (peer c) kr)
    () () N hN (by rw [hks, amount_at, h1]) (by rw [hkr, amount_at, h2]) O rfl (W := W)
    (by rw [hks, payload_at]; subst hfs; exact (owns_intro (c : Thread nD τ) M' fullShare fs).trans hp1)
    (by
      rw [hkr, payload_at]
      refine .trans (owns_intro (peer c : Thread nD τ) M' fullShare _) (.trans (Entails.of_eq ?_) hp2)
      congr 1
      subst hfs
      exact View.read_write_univ fd _)) $$ [Hs Hd HO Ht1 Ht2]
  · isplitr; · rw [hks]; iapply (inv_at m K (c, ks)); iexact HR
    isplitr; · rw [hkr]; iapply (inv_at m K (peer c, kr)); iexact HR
    isplitl [Hs]; · iexact Hs
    isplitl [Hd]; · iexact Hd
    isplitl [HO]; · iexact HO
    isplitl [Ht1]; · iexact Ht1
    isplitr; · rw [hks]; iapply (reached_at m K (c, ks)); iexact HR
    isplitl [Ht2]; · iexact Ht2
    rw [hkr]; iapply (reached_at m K (peer c, kr)); iexact HR
  iexact Hk

/-- The wait on a copy's cell, owing nothing: its payload, and the cell closed. -/
theorem wp_wait_copy (K : Dev nD × Fin 7 → ℕ) (k' : Fin 7) (sm : DmaSem sig) (hs : csem k' = .dma sm) {s : Shape} {e : EltTy}
    (M₁ M₂ : Memref sig .tc .vmem s e) {hw₁ : M₁.view.WordExact} {hw₂ : M₂.view.WordExact} (hN' : ∀ M : Memref sig .tc .vmem s e, M.view.dmaCredit = amt k') (W : Waits sig Unit)
    {α : Type} {Q : α → sProp 𝕄} {k : PUnit → Prog (TpuEff nD τ sig (Elt F) Λ₀ .tc) α} :
    iprop(records m K ∗ cred (tallyAt (kcell (c, k')) () (amt k')) ∗ owes (c : Thread nD τ) 0 W ∗ atPos ER (kcell (c, k')) 0 ∅ 0)
      ⊢ iprop(((owes (c : Thread nD τ) 0 (insert (csem k', ()) W) ∗ semVal (kcell (c, k')) 0 ∗ pay m c k')
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm M₁ M₂ hw₁ hw₂) k) Q) := by
  have hN := hN' M₂
  have hk : (((c : Thread nD τ), SemLoc.dma sm) : GSem nD τ sig) = kcell (c, k') := by show _ = ((c : Thread nD τ), csem k'); rw [hs]
  iintro ⟨#HR, Hc, HO, Hat⟩ Hk
  rw [← hk, hs, ← hN]
  iapply (Rounds.wp_wait_rest_token 𝒱₀ ER (sched m) (c : Thread nD τ) none (κ := K (c, k'))
      (wpE_waitDma2_eq 𝒱₀ (c : Thread nD τ) none Set.univ) (Set.mem_univ _) () (O := 0) (W := W) (R := 0) (m := 0) (T := ∅)
      (by rw [Nat.zero_add, hk, expect_at, hN])) $$ [Hc HO Hat]
  · isplitr; · rw [hk]; iapply (inv_at m K (c, k')); iexact HR
    isplitl [Hc]; · iexact Hc
    isplitl [HO]; · iexact HO
    isplitr; · rw [MayWait_zero]; iempintro
    iexact Hat
  iintro ⟨HO, Hat, -, Hpay⟩
  rw [hk]
  imod (Rounds.cell_close ER (sched m) (Set.mem_univ (K (c, k'))) (fun h => h) (R := 0 + 1) (duties_later m (kcell (c, k')))) $$ [Hat] with Hz
  · isplitr; · iapply (inv_at m K (c, k')); iexact HR
    iexact Hat
  iapply Hk
  isplitl [HO]; · iexact HO
  isplitl [Hz]; · iexact Hz
  iapply (Entails.of_eq (rest_at m c k'))
  iexact Hpay

end Cert.Mla

end
-- ==== Proof.BodyStart.lean ====
/-
  The body at grid point 0.
-/
module

public import proofs.«01_k».proof.Proof.Rules

@[expose] public section

noncomputable section

namespace Cert.Mla

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

section
variable (i : grid0.Coords)
variable (a1 : Memref sig .tc .vmem S2x512x2048 .f32) (ha1 : a1.IsWhole) (a2 : Memref sig .tc .vmem S2048x128 .f32) (ha2 : a2.IsWhole) (a3 : Memref sig .tc .vmem S128x2048 .f32) (ha3 : a3.IsWhole) (a4 : Memref sig .tc .vmem S128x2048 .f32) (ha4 : a4.IsWhole) (a5 : Memref sig .tc .vmem S2048x256 .f32) (ha5 : a5.IsWhole) (a6 : Memref sig .tc .vmem S2048x512 .f32) (ha6 : a6.IsWhole) (a7 : Memref sig .tc .vmem S2048x32 .f32) (ha7 : a7.IsWhole) (a8 : Memref sig .tc .vmem S2048x256 .f32) (ha8 : a8.IsWhole) (a9 : Memref sig .tc .vmem S1x512x2048 .f32) (ha9 : a9.IsWhole)
  (t : Fin grid0.N)

set_option maxHeartbeats 4000000 in
set_option maxRecDepth 65536 in
/-- The body at point 0: the handshake, the device's own halves and their copies, the rotary projections, the first bands. -/
theorem sound_first (h1 : k0_cond1 i = 1#1) (h2 : k0_cond2 i = 1#1) (h3 : ¬ k0_cond3 i = 1#1) (h4 : ¬ k0_cond4 i = 1#1) (ht : t.val = 0)
    (o5 : k0_off5 i = ![0, 256 * t.val]) (o6 : k0_off6 i = ![0, 256 * t.val]) (W : Waits sig Unit) (Kt : PUnit → sProp 𝕄) :
    iprop((Φ₀ m c ∗ owes (c : Thread nD τ) (O₀ c) W ∗ owns (c : Thread nD τ) a1 fullShare (inX m c) ∗ owns (c : Thread nD τ) a2 fullShare (inWdkv m c) ∗ owns (c : Thread nD τ) a3 fullShare (inWuk m c) ∗ owns (c : Thread nD τ) a4 fullShare (inWuv m c) ∗ owns (c : Thread nD τ) a5 fullShare (inWq m c t) ∗ owns (c : Thread nD τ) a6 fullShare (inWqr m c) ∗ owns (c : Thread nD τ) a7 fullShare (inWkr m c) ∗ owns (c : Thread nD τ) a8 fullShare (inWo m c t))
        ∗ ((Φmid m c (t.val + 1) ∗ (∃ W, owes (c : Thread nD τ) 0 W) ∗ owns (c : Thread nD τ) a1 fullShare (inX m c) ∗ owns (c : Thread nD τ) a2 fullShare (inWdkv m c) ∗ owns (c : Thread nD τ) a3 fullShare (inWuk m c) ∗ owns (c : Thread nD τ) a4 fullShare (inWuv m c) ∗ owns (c : Thread nD τ) a5 fullShare (inWq m c t) ∗ owns (c : Thread nD τ) a6 fullShare (inWqr m c) ∗ owns (c : Thread nD τ) a7 fullShare (inWkr m c) ∗ owns (c : Thread nD τ) a8 fullShare (inWo m c t)) -∗ Kt ⟨⟩))
      ⊢ wp frame (wpE (defs₀ (F := F)) 𝒱₀ c none) Set.univ
          (cc0__body i a1 ha1 a2 ha2 a3 ha3 a4 ha4 a5 ha5 a6 ha6 a7 ha7 a8 ha8 a9 ha9
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10) Kt := by
  have d1 : (⟨k0_dev1 c, k0_dev1_lt i c h1⟩ : Dev nD) = peer c := Fin.ext (k0_dev1_eq c)
  have d2 : (⟨k0_dev2 c, k0_dev2_lt i c h1⟩ : Dev nD) = peer c := Fin.ext (k0_dev2_eq c)
  have d3 : (⟨k0_dev3 c, k0_dev3_lt i c h1⟩ : Dev nD) = peer c := Fin.ext (k0_dev3_eq c)
  have d4 : (⟨k0_dev4 c, k0_dev4_lt i c h1⟩ : Dev nD) = peer c := Fin.ext (k0_dev4_eq c)
  have e1 : k0_off1 c = ![0, 128 * (par c).val] := k0_off1_eq c
  have e2 : k0_off2 c = ![128 * (par c).val, 0] := k0_off2_eq c
  have e3 : k0_off3 c = ![0, 128 * (par c).val] := k0_off3_eq c
  have e4 : k0_off4 c = ![128 * (par c).val, 0] := k0_off4_eq c
  simp only [cc0__body_eq_skeleton]; unfold cc0__body_skel
  simp only [dif_pos h1, dif_pos h2, dif_neg h3, dif_neg h4]
  simp only [k0_part1_eq_skeleton, k0_part2_eq_skeleton]; unfold k0_part1_skel k0_part2_skel
  simp only [semSignalWord, semWaitWord, Prog.lift, Prog.bind_op, Prog.bind_ret, Prog.pure_eq_ret, wp_deviceId]
  simp only [d1]
  unfold Φ₀ start ghost poss payToks recvCreds
  iintro ⟨⟨⟨⟨⟨%K, #HR, ⟨At0, At1, At2, At3, At4, At5, At6⟩, T0, ⟨T1, T2, T3⟩, T4, T5, T6⟩, C0, ⟨C4, C5, C6⟩, #Hlev⟩, ⟨%fxb, Hxb⟩, ⟨%fc, Hc⟩, ⟨%fk, Hk⟩, ⟨%fv, Hv⟩, ⟨%fq, Hq⟩, ⟨%fqr, Hqr⟩, ⟨%fkr, Hkr⟩, ⟨%fwo, Hwo⟩, Ho⟩,
    HO, H1, H2, H3, H4, H5, H6, H7, H8⟩, Hkt⟩
  ihave Hc := (cM_split c fc) $$ Hc
  icases Hc with ⟨⟨%gc, Hc⟩, Hc'⟩
  ihave Hk := (kM_split c fk) $$ Hk
  icases Hk with ⟨⟨%gk, Hk⟩, Hk'⟩
  ihave Hv := (vM_split c fv) $$ Hv
  icases Hv with ⟨⟨%gv, Hv⟩, Hv'⟩
  -- the signal to the peer's barrier, with the three landing halves
  iapply (Rounds.wp_signal 𝒱₀ ER (sched m) (c : Thread nD τ) none (dst := (peer c : Thread nD τ)) (κ := K (peer c, 0))
      (mem_duties m (peer c) 0) ((amount_at m (peer c) 0 ()).trans (by decide)) () (O₁ c) rfl) $$ [HO T0 Hc' Hk' Hv']
  · isplitr; · iapply (inv_at m K (peer c, 0)); iexact HR
    isplitl [HO]; · iexact HO
    isplitl [T0]; · iexact T0
    isplitl [Hc' Hk' Hv']
    · iapply (Entails.of_eq (payload_at m (peer c) 0 ()).symm)
      unfold pay; rw [peer_peer]
      isplitl [Hc']; · iexact Hc'
      isplitl [Hk'] <;> iassumption
    iapply (reached_at m K (peer c, 0)); iexact HR
  iintro HO
  -- the wait on its own: the peer's landing halves come with it
  iapply (Rounds.wp_wait_rest_token 𝒱₀ ER (sched m) (c : Thread nD τ) none (κ := K (c, 0))
      (wpE_semWait_eq 𝒱₀ (c : Thread nD τ) none Set.univ) (Set.mem_univ _) () (O := O₁ c) (W := W) (R := 0) (m := 0) (T := ∅)
      (by rw [expect_at m c 0]; decide)) $$ [C0 HO At0]
  · isplitr; · iapply (inv_at m K (c, 0)); iexact HR
    isplitl [C0]; · iexact C0
    isplitl [HO]; · iexact HO
    isplitr; · iapply (mayWait_bar c); iexact Hlev
    iexact At0
  iintro ⟨HO, At0, -, Hpay⟩
  imod (Rounds.cell_close ER (sched m) (Set.mem_univ (K (c, 0))) (fun h => h) (R := 0 + 1) (duties_later m (kcell (c, 0)))) $$ [At0] with Z0
  · isplitr; · iapply (inv_at m K (c, 0)); iexact HR
    iexact At0
  ihave Hp := (Entails.of_eq (rest_at m c 0)) $$ Hpay
  unfold pay
  icases Hp with ⟨⟨%pc, Pc⟩, ⟨%pk, Pk⟩, ⟨%pv, Pv⟩⟩
  -- the cast activations and the device's halves
  iapply (wp_load_full c a1 (inX m c) zero3) $$ H1; iintro H1
  iapply (wp_load_full c xbM fxb zero2) $$ Hxb; iintro Hxb
  iapply (wp_store_full c xbM fxb zero2) $$ Hxb; iintro Hxb
  ihave Hxb := (show owns (c : Thread nD τ) xbM fullShare (k0_pay6 (inX m c)) ⊢ (owns (c : Thread nD τ) xbM fullShare (XB m c) : sProp 𝕄) from .rfl) $$ Hxb
  iapply (wp_load_full c xbM (XB m c) zero2) $$ Hxb; iintro Hxb
  iapply (wp_load_full c a2 (inWdkv m c) zero2) $$ H2; iintro H2
  iapply (wp_load_slice c cM e1 gc) $$ Hc; iintro %vc Hc
  iapply (wp_store_slice c cM e1 gc) $$ Hc; iintro Hc
  iapply (wp_load_full c a3 (inWuk m c) zero2) $$ H3; iintro H3
  iapply (wp_load_slice c kM e2 gk) $$ Hk; iintro %vk Hk
  iapply (wp_store_slice c kM e2 gk) $$ Hk; iintro Hk
  iapply (wp_load_full c a4 (inWuv m c) zero2) $$ H4; iintro H4
  iapply (wp_load_slice c vM e2 gv) $$ Hv; iintro %vv Hv
  iapply (wp_store_slice c vM e2 gv) $$ Hv; iintro Hv
  -- the three copies
  unfold O₁
  iapply (wp_copy m c K (cH (par c)) _ (Memref.slice_unit_congr _ e3 _ _ _ _) _ d2 (CO m c) pc snd0 rcv0 1 4 rfl rfl cN rfl rfl rfl .rfl
    (by unfold pay; rw [peer_peer]) _ _) $$ [HO Hc Pc T1 T4]
  · isplitr; · iexact HR
    isplitl [Hc]; · iexact Hc
    isplitl [Pc]; · iexact Pc
    isplitl [HO]; · iexact HO
    isplitl [T1] <;> iassumption
  iintro ⟨C1, HO⟩
  iapply (wp_copy m c K (kH (par c)) _ (Memref.slice_unit_congr _ e4 _ _ _ _) _ d3 (KO m c) pk snd1 rcv1 2 5 rfl rfl kN rfl rfl rfl .rfl
    (by unfold pay; rw [peer_peer]) _ _) $$ [HO Hk Pk T2 T5]
  · isplitr; · iexact HR
    isplitl [Hk]; · iexact Hk
    isplitl [Pk]; · iexact Pk
    isplitl [HO]; · iexact HO
    isplitl [T2] <;> iassumption
  iintro ⟨C2, HO⟩
  ihave HO := (Entails.of_eq (congrArg (fun O => (owes (c : Thread nD τ) O _ : sProp 𝕄)) (zero_add (tallyAt (kcell (peer c, 6)) () vN)).symm)) $$ HO
  iapply (wp_copy m c K (vH (par c)) _ (Memref.slice_unit_congr _ e4 _ _ _ _) _ d4 (VO m c) pv snd2 rcv2 3 6 rfl rfl vN rfl rfl rfl .rfl
    (by unfold pay; rw [peer_peer]) 0 _) $$ [HO Hv Pv T3 T6]
  · isplitr; · iexact HR
    isplitl [Hv]; · iexact Hv
    isplitl [Pv]; · iexact Pv
    isplitl [HO]; · iexact HO
    isplitl [T3] <;> iassumption
  iintro ⟨C3, HO⟩
  -- the rotary projections
  iapply (wp_load_full c xbM (XB m c) zero2) $$ Hxb; iintro Hxb
  iapply (wp_load_full c a7 (inWkr m c) zero2) $$ H7; iintro H7
  iapply (wp_load_full c krM fkr zero2) $$ Hkr; iintro Hkr
  iapply (wp_store_full c krM fkr zero2) $$ Hkr; iintro Hkr
  iapply (wp_load_full c xbM (XB m c) zero2) $$ Hxb; iintro Hxb
  iapply (wp_load_full c a6 (inWqr m c) zero2) $$ H6; iintro H6
  iapply (wp_load_full c qrM fqr zero2) $$ Hqr; iintro Hqr
  iapply (wp_store_full c qrM fqr zero2) $$ Hqr; iintro Hqr
  -- the first bands
  ihave Hq := (upto_zero c qM (Qv m c) fq) $$ Hq
  ihave Hwo := (upto_zero c woM (Wv m c) fwo) $$ Hwo
  ihave Hq := (Entails.of_eq (show upto c qM (Qv m c) 0 = (upto c qM (Qv m c) (256 * t.val) : sProp 𝕄) by rw [ht])) $$ Hq
  ihave Hwo := (Entails.of_eq (show upto c woM (Wv m c) 0 = (upto c woM (Wv m c) (256 * t.val) : sProp 𝕄) by rw [ht])) $$ Hwo
  iapply (wp_load_full c xbM (XB m c) zero2) $$ Hxb; iintro Hxb
  iapply (wp_load_full c a5 (inWq m c t) zero2) $$ H5; iintro H5
  iapply (wp_load_upto c qM (Qv m c) (256 * t.val)) $$ Hq; iintro %vq Hq
  iapply (wp_store_upto c qM (Qv m c) (256 * t.val) (w := 256) o5 (fun j i h0 h1 => Qv_band m c t _ rfl j i h0 h1) (256 * (t.val + 1)) (Nat.mul_succ _ _)) $$ Hq; iintro Hq
  iapply (wp_load_full c a8 (inWo m c t) zero2) $$ H8; iintro H8
  iapply (wp_load_upto c woM (Wv m c) (256 * t.val)) $$ Hwo; iintro %vw Hwo
  iapply (wp_store_upto c woM (Wv m c) (256 * t.val) (w := 256) o6 (fun j i h0 h1 => Wv_band m c t _ rfl j i h0 h1) (256 * (t.val + 1)) (Nat.mul_succ _ _)) $$ Hwo; iintro Hwo
  rw [wp_ret]; imodintro
  iapply Hkt
  unfold Φmid projs bands flights recvCreds
  isplitr [HO H1 H2 H3 H4 H5 H6 H7 H8]
  · isplitl [Hxb Hqr Hkr]
    · isplitl [Hxb]; · iexact Hxb
      isplitl [Hqr]; · iexact Hqr
      iexact Hkr
    isplitl [Hq Hwo]
    · isplitl [Hq] <;> iassumption
    isplitl [Ho]; · iexact Ho
    iexists K
    isplitr; · iexact HR
    isplitl [At1 At2 At3 At4 At5 At6]
    · isplitl [At1]; · iexact At1
      isplitl [At2]; · iexact At2
      isplitl [At3]; · iexact At3
      isplitl [At4]; · iexact At4
      isplitl [At5] <;> iassumption
    isplitl [C1 C2 C3]
    · isplitl [C1]; · iexact C1
      isplitl [C2] <;> iassumption
    isplitl [C4 C5 C6]
    · isplitl [C4]; · iexact C4
      isplitl [C5] <;> iassumption
    iexact Z0
  isplitl [HO]
  · iexists _; iexact HO
  isplitl [H1]; · iexact H1
  isplitl [H2]; · iexact H2
  isplitl [H3]; · iexact H3
  isplitl [H4]; · iexact H4
  isplitl [H5]; · iexact H5
  isplitl [H6]; · iexact H6
  isplitl [H7] <;> iassumption

end

end Cert.Mla

end
-- ==== Proof.BodyMid.lean ====
/-
  The body at the grid points 1 to 7: each fills a band of the query projection and of the output projection, and point 7 ends the exchange.
-/
module

public import proofs.«01_k».proof.Proof.Rules

@[expose] public section

noncomputable section

namespace Cert.Mla

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

section
variable (i : grid0.Coords)
variable (a1 : Memref sig .tc .vmem S2x512x2048 .f32) (ha1 : a1.IsWhole) (a2 : Memref sig .tc .vmem S2048x128 .f32) (ha2 : a2.IsWhole) (a3 : Memref sig .tc .vmem S128x2048 .f32) (ha3 : a3.IsWhole) (a4 : Memref sig .tc .vmem S128x2048 .f32) (ha4 : a4.IsWhole) (a5 : Memref sig .tc .vmem S2048x256 .f32) (ha5 : a5.IsWhole) (a6 : Memref sig .tc .vmem S2048x512 .f32) (ha6 : a6.IsWhole) (a7 : Memref sig .tc .vmem S2048x32 .f32) (ha7 : a7.IsWhole) (a8 : Memref sig .tc .vmem S2048x256 .f32) (ha8 : a8.IsWhole) (a9 : Memref sig .tc .vmem S1x512x2048 .f32) (ha9 : a9.IsWhole)
  (t : Fin grid0.N)

set_option maxHeartbeats 4000000 in
set_option maxRecDepth 65536 in
/-- The body at a point that only fills the bands. -/
theorem sound_mid (h1 : ¬ k0_cond1 i = 1#1) (h2 : k0_cond2 i = 1#1) (h3 : ¬ k0_cond3 i = 1#1) (h4 : ¬ k0_cond4 i = 1#1)
    (o5 : k0_off5 i = ![0, 256 * t.val]) (o6 : k0_off6 i = ![0, 256 * t.val]) (Kt : PUnit → sProp 𝕄) :
    iprop((Φmid m c t.val ∗ owns (c : Thread nD τ) a5 fullShare (inWq m c t) ∗ owns (c : Thread nD τ) a8 fullShare (inWo m c t)) ∗ ((Φmid m c (t.val + 1) ∗ owns (c : Thread nD τ) a5 fullShare (inWq m c t) ∗ owns (c : Thread nD τ) a8 fullShare (inWo m c t)) -∗ Kt ⟨⟩))
      ⊢ wp frame (wpE (defs₀ (F := F)) 𝒱₀ c none) Set.univ
          (cc0__body i a1 ha1 a2 ha2 a3 ha3 a4 ha4 a5 ha5 a6 ha6 a7 ha7 a8 ha8 a9 ha9
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10) Kt := by
  simp only [cc0__body_eq_skeleton]; unfold cc0__body_skel
  simp only [dif_neg h1, dif_pos h2, dif_neg h3, dif_neg h4]
  simp only [Prog.lift, Prog.bind_op, Prog.bind_ret, Prog.pure_eq_ret, wp_deviceId]
  unfold Φmid projs bands
  iintro ⟨⟨⟨⟨Hxb, Hqr, Hkr⟩, ⟨Hq, Hwo⟩, Ho, Hfl⟩, H5, H8⟩, Hkt⟩
  iapply (wp_load_full c xbM (XB m c) zero2) $$ Hxb; iintro Hxb
  iapply (wp_load_full c a5 (inWq m c t) zero2) $$ H5; iintro H5
  iapply (wp_load_upto c qM (Qv m c) (256 * t.val)) $$ Hq; iintro %vq Hq
  iapply (wp_store_upto c qM (Qv m c) (256 * t.val) (w := 256) o5 (fun j i h0 h1 => Qv_band m c t _ rfl j i h0 h1) (256 * (t.val + 1)) (Nat.mul_succ _ _)) $$ Hq; iintro Hq
  iapply (wp_load_full c a8 (inWo m c t) zero2) $$ H8; iintro H8
  iapply (wp_load_upto c woM (Wv m c) (256 * t.val)) $$ Hwo; iintro %vw Hwo
  iapply (wp_store_upto c woM (Wv m c) (256 * t.val) (w := 256) o6 (fun j i h0 h1 => Wv_band m c t _ rfl j i h0 h1) (256 * (t.val + 1)) (Nat.mul_succ _ _)) $$ Hwo; iintro Hwo
  rw [wp_ret]; imodintro
  iapply Hkt
  isplitr [H5 H8]
  · isplitl [Hxb Hqr Hkr]
    · isplitl [Hxb]; · iexact Hxb
      isplitl [Hqr] <;> iassumption
    isplitl [Hq Hwo]
    · isplitl [Hq] <;> iassumption
    isplitl [Ho]; · iexact Ho
    iexact Hfl
  · isplitl [H5] <;> iassumption

set_option maxHeartbeats 4000000 in
set_option maxRecDepth 65536 in
/-- The body at point 7: the last bands, and the six waits. -/
theorem sound_last (h1 : ¬ k0_cond1 i = 1#1) (h2 : k0_cond2 i = 1#1) (h3 : k0_cond3 i = 1#1) (h4 : ¬ k0_cond4 i = 1#1) (ht : t.val = 7)
    (o5 : k0_off5 i = ![0, 256 * t.val]) (o6 : k0_off6 i = ![0, 256 * t.val]) (W : Waits sig Unit) (Kt : PUnit → sProp 𝕄) :
    iprop((Φmid m c t.val ∗ owes (c : Thread nD τ) 0 W ∗ owns (c : Thread nD τ) a5 fullShare (inWq m c t) ∗ owns (c : Thread nD τ) a8 fullShare (inWo m c t)) ∗ ((Φend m c ∗ (∃ W, owes (c : Thread nD τ) 0 W) ∗ owns (c : Thread nD τ) a5 fullShare (inWq m c t) ∗ owns (c : Thread nD τ) a8 fullShare (inWo m c t)) -∗ Kt ⟨⟩))
      ⊢ wp frame (wpE (defs₀ (F := F)) 𝒱₀ c none) Set.univ
          (cc0__body i a1 ha1 a2 ha2 a3 ha3 a4 ha4 a5 ha5 a6 ha6 a7 ha7 a8 ha8 a9 ha9
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10) Kt := by
  simp only [cc0__body_eq_skeleton]; unfold cc0__body_skel
  simp only [dif_neg h1, dif_pos h2, dif_pos h3, dif_neg h4]
  simp only [k0_part3_eq_skeleton]; unfold k0_part3_skel
  simp only [Prog.lift, Prog.bind_op, Prog.bind_ret, Prog.pure_eq_ret, wp_deviceId]
  unfold Φmid projs bands flights recvCreds
  iintro ⟨⟨⟨⟨Hxb, Hqr, Hkr⟩, ⟨Hq, Hwo⟩, Ho, ⟨%K, #HR, ⟨At1, At2, At3, At4, At5, At6⟩, ⟨C1, C2, C3⟩, ⟨C4, C5, C6⟩, Z0⟩⟩, HO, H5, H8⟩, Hkt⟩
  iapply (wp_load_full c xbM (XB m c) zero2) $$ Hxb; iintro Hxb
  iapply (wp_load_full c a5 (inWq m c t) zero2) $$ H5; iintro H5
  iapply (wp_load_upto c qM (Qv m c) (256 * t.val)) $$ Hq; iintro %vq Hq
  iapply (wp_store_upto c qM (Qv m c) (256 * t.val) (w := 256) o5 (fun j i h0 h1 => Qv_band m c t _ rfl j i h0 h1) (256 * (t.val + 1)) (Nat.mul_succ _ _)) $$ Hq; iintro Hq
  iapply (wp_load_full c a8 (inWo m c t) zero2) $$ H8; iintro H8
  iapply (wp_load_upto c woM (Wv m c) (256 * t.val)) $$ Hwo; iintro %vw Hwo
  iapply (wp_store_upto c woM (Wv m c) (256 * t.val) (w := 256) o6 (fun j i h0 h1 => Wv_band m c t _ rfl j i h0 h1) (256 * (t.val + 1)) (Nat.mul_succ _ _)) $$ Hwo; iintro Hwo
  iapply (wp_wait_copy (s := S1024x128) (e := .bf16) m c K 1 snd0 rfl _ _ (fun _ => rfl) _) $$ [HO C1 At1]
  · isplitr; · iexact HR
    isplitl [C1]; · iexact C1
    isplitl [HO] <;> iassumption
  iintro ⟨HO, Z1, P1⟩
  iapply (wp_wait_copy (s := S1024x128) (e := .bf16) m c K 4 rcv0 rfl _ _ (fun _ => rfl) _) $$ [HO C4 At4]
  · isplitr; · iexact HR
    isplitl [C4]; · iexact C4
    isplitl [HO] <;> iassumption
  iintro ⟨HO, Z4, P4⟩
  iapply (wp_wait_copy (s := S128x2048) (e := .bf16) m c K 2 snd1 rfl _ _ (fun _ => rfl) _) $$ [HO C2 At2]
  · isplitr; · iexact HR
    isplitl [C2]; · iexact C2
    isplitl [HO] <;> iassumption
  iintro ⟨HO, Z2, P2⟩
  iapply (wp_wait_copy (s := S128x2048) (e := .bf16) m c K 5 rcv1 rfl _ _ (fun _ => rfl) _) $$ [HO C5 At5]
  · isplitr; · iexact HR
    isplitl [C5]; · iexact C5
    isplitl [HO] <;> iassumption
  iintro ⟨HO, Z5, P5⟩
  iapply (wp_wait_copy (s := S128x2048) (e := .bf16) m c K 3 snd2 rfl _ _ (fun _ => rfl) _) $$ [HO C3 At3]
  · isplitr; · iexact HR
    isplitl [C3]; · iexact C3
    isplitl [HO] <;> iassumption
  iintro ⟨HO, Z3, P3⟩
  iapply (wp_wait_copy (s := S128x2048) (e := .bf16) m c K 6 rcv2 rfl _ _ (fun _ => rfl) _) $$ [HO C6 At6]
  · isplitr; · iexact HR
    isplitl [C6]; · iexact C6
    isplitl [HO] <;> iassumption
  iintro ⟨HO, Z6, P6⟩
  unfold pay
  ihave Hc := (cM_join m c) $$ [P1 P4]
  · isplitl [P1] <;> iassumption
  ihave Hk := (kM_join m c) $$ [P2 P5]
  · isplitl [P2] <;> iassumption
  ihave Hv := (vM_join m c) $$ [P3 P6]
  · isplitl [P3] <;> iassumption
  ihave Hq := (upto_all c qM (Qv m c) (256 * (t.val + 1)) (by rw [ht])) $$ Hq
  ihave Hwo := (upto_all c woM (Wv m c) (256 * (t.val + 1)) (by rw [ht])) $$ Hwo
  rw [wp_ret]; imodintro
  iapply Hkt
  unfold Φend projs closed
  isplitr [HO H5 H8]
  · isplitl [Hxb Hqr Hkr]
    · isplitl [Hxb]; · iexact Hxb
      isplitl [Hqr] <;> iassumption
    isplitl [Hc]; · iexact Hc
    isplitl [Hk]; · iexact Hk
    isplitl [Hv]; · iexact Hv
    isplitl [Hq]; · iexact Hq
    isplitl [Hwo]; · iexact Hwo
    isplitl [Ho]; · iexact Ho
    isplitl [Z0]; · iexact Z0
    isplitl [Z1]; · iexact Z1
    isplitl [Z2]; · iexact Z2
    isplitl [Z3]; · iexact Z3
    isplitl [Z4]; · iexact Z4
    isplitl [Z5] <;> iassumption
  isplitl [HO]
  · iexists _; iexact HO
  isplitl [H5] <;> iassumption

end

end Cert.Mla

end
-- ==== Proof.BodyEnd.lean ====
/-
  The body at the last two grid points: the attention of one batch, head by head, and its product with the output matrix.
-/
module

public import proofs.«01_k».proof.Proof.Rules

@[expose] public section

noncomputable section

namespace Cert.Mla

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- A load of the rows of a batch. -/
theorem wp_load_rows {n : Nat} {e : EltTy} (M : Memref sig .tc .vmem ⟨2, ![1024, n]⟩ e) (X : (⟨2, ![1024, n]⟩ : Shape).Idx → Elt F e) (b : Fin 2)
    {off : Fin 2 → Nat} (ho : off = ![512 * b.val, 0]) {inb : ∀ x, off x + (⟨2, ![512, n]⟩ : Shape).size x ≤ (⟨2, ![1024, n]⟩ : Shape).size x}
    {hl : M.view.LoadsAt (Rect.unit (s := ⟨2, ![1024, n]⟩) off (⟨2, ![512, n]⟩ : Shape).size inb).toLoadRect} {α : Type}
    {k : ((⟨2, ![512, n]⟩ : Shape).Idx → Elt F e) → Prog (TpuEff nD τ sig (Elt F) Λ₀ .tc) α} {Q : α → sProp 𝕄} :
    (owns (c : Thread nD τ) M fullShare X : sProp 𝕄)
      ⊢ iprop((owns (c : Thread nD τ) M fullShare X -∗ wp frame (wpE (defs₀ (F := F)) 𝒱₀ (c : Thread nD τ) none) Set.univ (k (rows b X)) Q)
        -∗ wp frame (wpE (defs₀ (F := F)) 𝒱₀ (c : Thread nD τ) none) Set.univ
            (.op (.load M (Rect.unit (s := ⟨2, ![1024, n]⟩) off (⟨2, ![512, n]⟩ : Shape).size inb).toLoadRect hl) k) Q) := by
  subst ho
  have e : (fun j : (⟨2, ![512, n]⟩ : Shape).Idx => X ((Rect.unit (s := ⟨2, ![1024, n]⟩) ![512 * b.val, 0] (⟨2, ![512, n]⟩ : Shape).size inb).emb j)) = rows b X :=
    funext fun j => congrArg X (idx2_ext (by rw [emb_unit_val]; rfl) (by rw [emb_unit_val]; exact Nat.zero_add _))
  rw [← e]
  exact wp_load_owns c M X (r := Rect.unit (s := ⟨2, ![1024, n]⟩) ![512 * b.val, 0] (⟨2, ![512, n]⟩ : Shape).size inb) (hl := hl) (k := k)

section
variable (i : grid0.Coords)
variable (a1 : Memref sig .tc .vmem S2x512x2048 .f32) (ha1 : a1.IsWhole) (a2 : Memref sig .tc .vmem S2048x128 .f32) (ha2 : a2.IsWhole) (a3 : Memref sig .tc .vmem S128x2048 .f32) (ha3 : a3.IsWhole) (a4 : Memref sig .tc .vmem S128x2048 .f32) (ha4 : a4.IsWhole) (a5 : Memref sig .tc .vmem S2048x256 .f32) (ha5 : a5.IsWhole) (a6 : Memref sig .tc .vmem S2048x512 .f32) (ha6 : a6.IsWhole) (a7 : Memref sig .tc .vmem S2048x32 .f32) (ha7 : a7.IsWhole) (a8 : Memref sig .tc .vmem S2048x256 .f32) (ha8 : a8.IsWhole) (a9 : Memref sig .tc .vmem S1x512x2048 .f32) (ha9 : a9.IsWhole)

set_option maxHeartbeats 4000000 in
set_option maxRecDepth 65536 in
/-- The body at a point of the last two, at the batch `b` its row offsets name. -/
theorem sound_end (b : Fin 2) (h1 : ¬ k0_cond1 i = 1#1) (h2 : ¬ k0_cond2 i = 1#1) (h3 : ¬ k0_cond3 i = 1#1) (h4 : k0_cond4 i = 1#1)
    (o9 : k0_off9 i = ![512 * b.val, 0]) (o10 : k0_off10 i = ![512 * b.val, 0]) (o11 : k0_off11 i = ![512 * b.val, 0]) (o12 : k0_off12 i = ![512 * b.val, 0])
    (f9 : S1x512x2048.Idx → Elt F .f32) (Kt : PUnit → sProp 𝕄) :
    iprop((Φend m c ∗ owns (c : Thread nD τ) a9 fullShare f9) ∗ ((Φend m c ∗ owns (c : Thread nD τ) a9 fullShare (outB m c b)) -∗ Kt ⟨⟩))
      ⊢ wp frame (wpE (defs₀ (F := F)) 𝒱₀ c none) Set.univ
          (cc0__body i a1 ha1 a2 ha2 a3 ha3 a4 ha4 a5 ha5 a6 ha6 a7 ha7 a8 ha8 a9 ha9
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10) Kt := by
  simp only [cc0__body_eq_skeleton]; unfold cc0__body_skel
  simp only [dif_neg h1, dif_neg h2, dif_neg h3, dif_pos h4]
  simp only [k0_part4_eq_skeleton, k0_part5_eq_skeleton, k0_part6_eq_skeleton, k0_part7_eq_skeleton, k0_part8_eq_skeleton, k0_part9_eq_skeleton,
    k0_part10_eq_skeleton, k0_part11_eq_skeleton]
  unfold k0_part4_skel k0_part5_skel k0_part6_skel k0_part7_skel k0_part8_skel k0_part9_skel k0_part10_skel k0_part11_skel
  simp only [Prog.lift, Prog.bind_op, Prog.bind_ret, Prog.pure_eq_ret, wp_deviceId]
  unfold Φend projs outAny
  iintro ⟨⟨⟨⟨Hxb, Hqr, Hkr⟩, Hc, Hk, Hv, Hq, Hwo, ⟨%fo, Ho⟩, Hcl⟩, Hout⟩, Hkt⟩
  iapply (wp_load_rows c cM (Cf m c) b o9) $$ Hc; iintro Hc
  iapply (wp_load_full c kM (Kf m c) zero2) $$ Hk; iintro Hk
  iapply (wp_load_full c vM (Vf m c) zero2) $$ Hv; iintro Hv
  iapply (wp_load_rows c krM (KR m c) b o10) $$ Hkr; iintro Hkr
  iapply (wp_load_rows c qM (Qv m c) b o11) $$ Hq; iintro Hq
  iapply (wp_load_rows c qrM (QR m c) b o12) $$ Hqr; iintro Hqr
  ihave Ho := (upto_zero c oM (OSf m c b) fo) $$ Ho
  iapply (wp_load_upto c oM (OSf m c b) 0) $$ Ho; iintro %v0 Ho
  iapply (wp_store_upto c oM (OSf m c b) 0 (w := 128) rfl (fun j i h0 h1 => OSf_band m c b 0 0 rfl j i h0 h1) 128 rfl) $$ Ho; iintro Ho
  iapply (wp_load_upto c oM (OSf m c b) 128) $$ Ho; iintro %v1 Ho
  iapply (wp_store_upto c oM (OSf m c b) 128 (w := 128) rfl (fun j i h0 h1 => OSf_band m c b 1 128 rfl j i h0 h1) 256 rfl) $$ Ho; iintro Ho
  iapply (wp_load_upto c oM (OSf m c b) 256) $$ Ho; iintro %v2 Ho
  iapply (wp_store_upto c oM (OSf m c b) 256 (w := 128) rfl (fun j i h0 h1 => OSf_band m c b 2 256 rfl j i h0 h1) 384 rfl) $$ Ho; iintro Ho
  iapply (wp_load_upto c oM (OSf m c b) 384) $$ Ho; iintro %v3 Ho
  iapply (wp_store_upto c oM (OSf m c b) 384 (w := 128) rfl (fun j i h0 h1 => OSf_band m c b 3 384 rfl j i h0 h1) 512 rfl) $$ Ho; iintro Ho
  iapply (wp_load_upto c oM (OSf m c b) 512) $$ Ho; iintro %v4 Ho
  iapply (wp_store_upto c oM (OSf m c b) 512 (w := 128) rfl (fun j i h0 h1 => OSf_band m c b 4 512 rfl j i h0 h1) 640 rfl) $$ Ho; iintro Ho
  iapply (wp_load_upto c oM (OSf m c b) 640) $$ Ho; iintro %v5 Ho
  iapply (wp_store_upto c oM (OSf m c b) 640 (w := 128) rfl (fun j i h0 h1 => OSf_band m c b 5 640 rfl j i h0 h1) 768 rfl) $$ Ho; iintro Ho
  iapply (wp_load_upto c oM (OSf m c b) 768) $$ Ho; iintro %v6 Ho
  iapply (wp_store_upto c oM (OSf m c b) 768 (w := 128) rfl (fun j i h0 h1 => OSf_band m c b 6 768 rfl j i h0 h1) 896 rfl) $$ Ho; iintro Ho
  iapply (wp_load_upto c oM (OSf m c b) 896) $$ Ho; iintro %v7 Ho
  iapply (wp_store_upto c oM (OSf m c b) 896 (w := 128) rfl (fun j i h0 h1 => OSf_band m c b 7 896 rfl j i h0 h1) 1024 rfl) $$ Ho; iintro Ho
  iapply (wp_load_upto c oM (OSf m c b) 1024) $$ Ho; iintro %v8 Ho
  iapply (wp_store_upto c oM (OSf m c b) 1024 (w := 128) rfl (fun j i h0 h1 => OSf_band m c b 8 1024 rfl j i h0 h1) 1152 rfl) $$ Ho; iintro Ho
  iapply (wp_load_upto c oM (OSf m c b) 1152) $$ Ho; iintro %v9 Ho
  iapply (wp_store_upto c oM (OSf m c b) 1152 (w := 128) rfl (fun j i h0 h1 => OSf_band m c b 9 1152 rfl j i h0 h1) 1280 rfl) $$ Ho; iintro Ho
  iapply (wp_load_upto c oM (OSf m c b) 1280) $$ Ho; iintro %v10 Ho
  iapply (wp_store_upto c oM (OSf m c b) 1280 (w := 128) rfl (fun j i h0 h1 => OSf_band m c b 10 1280 rfl j i h0 h1) 1408 rfl) $$ Ho; iintro Ho
  iapply (wp_load_upto c oM (OSf m c b) 1408) $$ Ho; iintro %v11 Ho
  iapply (wp_store_upto c oM (OSf m c b) 1408 (w := 128) rfl (fun j i h0 h1 => OSf_band m c b 11 1408 rfl j i h0 h1) 1536 rfl) $$ Ho; iintro Ho
  iapply (wp_load_upto c oM (OSf m c b) 1536) $$ Ho; iintro %v12 Ho
  iapply (wp_store_upto c oM (OSf m c b) 1536 (w := 128) rfl (fun j i h0 h1 => OSf_band m c b 12 1536 rfl j i h0 h1) 1664 rfl) $$ Ho; iintro Ho
  iapply (wp_load_upto c oM (OSf m c b) 1664) $$ Ho; iintro %v13 Ho
  iapply (wp_store_upto c oM (OSf m c b) 1664 (w := 128) rfl (fun j i h0 h1 => OSf_band m c b 13 1664 rfl j i h0 h1) 1792 rfl) $$ Ho; iintro Ho
  iapply (wp_load_upto c oM (OSf m c b) 1792) $$ Ho; iintro %v14 Ho
  iapply (wp_store_upto c oM (OSf m c b) 1792 (w := 128) rfl (fun j i h0 h1 => OSf_band m c b 14 1792 rfl j i h0 h1) 1920 rfl) $$ Ho; iintro Ho
  iapply (wp_load_upto c oM (OSf m c b) 1920) $$ Ho; iintro %v15 Ho
  iapply (wp_store_upto c oM (OSf m c b) 1920 (w := 128) rfl (fun j i h0 h1 => OSf_band m c b 15 1920 rfl j i h0 h1) 2048 rfl) $$ Ho; iintro Ho
  ihave Ho := (upto_all c oM (OSf m c b) 2048 le_rfl) $$ Ho
  iapply (wp_load_full c oM (OSf m c b) zero2) $$ Ho; iintro Ho
  iapply (wp_load_full c woM (Wv m c) zero2) $$ Hwo; iintro Hwo
  iapply (wp_load_full c a9 f9 zero3) $$ Hout; iintro Hout
  iapply (wp_store_full c a9 f9 zero3) $$ Hout; iintro Hout
  rw [wp_ret]; imodintro
  iapply Hkt
  isplitr [Hout]
  · isplitl [Hxb Hqr Hkr]
    · isplitl [Hxb]; · iexact Hxb
      isplitl [Hqr] <;> iassumption
    isplitl [Hc]; · iexact Hc
    isplitl [Hk]; · iexact Hk
    isplitl [Hv]; · iexact Hv
    isplitl [Hq]; · iexact Hq
    isplitl [Hwo]; · iexact Hwo
    isplitl [Ho]; · iexists _; iexact Ho
    iexact Hcl
  · iexact Hout

end

end Cert.Mla

end
-- ==== Proof.Body.lean ====
/-
  The pipeline's body obligation: the body at each of the ten grid points, on the staging buffers the pipeline gives it there.
-/
module

public import proofs.«01_k».proof.Proof.BodyStart
public import proofs.«01_k».proof.Proof.BodyMid
public import proofs.«01_k».proof.Proof.BodyEnd
public import proofs.«01_k».proof.Proof.Gen.KernelIdeal.Points

@[expose] public section

noncomputable section

namespace Cert.Mla

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

theorem before_0 (t : Fin cfg0.N) (d) : (dats m 0 c).before (0 : Fin 9) t d = iblk m c (0 : Fin 9) t :=
  ((dats m 0 c).before_in_eq_fetched (0 : Fin 9) rfl (fun _ => rfl) (fun _ _ _ => rfl) (fun t => rfl) t d).trans rfl
theorem before_1 (t : Fin cfg0.N) (d) : (dats m 0 c).before (1 : Fin 9) t d = iblk m c (1 : Fin 9) t :=
  ((dats m 0 c).before_in_eq_fetched (1 : Fin 9) rfl (fun _ => rfl) (fun _ _ _ => rfl) (fun t => rfl) t d).trans rfl
theorem before_2 (t : Fin cfg0.N) (d) : (dats m 0 c).before (2 : Fin 9) t d = iblk m c (2 : Fin 9) t :=
  ((dats m 0 c).before_in_eq_fetched (2 : Fin 9) rfl (fun _ => rfl) (fun _ _ _ => rfl) (fun t => rfl) t d).trans rfl
theorem before_3 (t : Fin cfg0.N) (d) : (dats m 0 c).before (3 : Fin 9) t d = iblk m c (3 : Fin 9) t :=
  ((dats m 0 c).before_in_eq_fetched (3 : Fin 9) rfl (fun _ => rfl) (fun _ _ _ => rfl) (fun t => rfl) t d).trans rfl
theorem before_4 (t : Fin cfg0.N) (d) : (dats m 0 c).before (4 : Fin 9) t d = iblk m c (4 : Fin 9) t :=
  ((dats m 0 c).before_in_eq_fetched (4 : Fin 9) rfl (fun _ => rfl) (fun _ _ _ => rfl) (fun t => rfl) t d).trans rfl
theorem before_5 (t : Fin cfg0.N) (d) : (dats m 0 c).before (5 : Fin 9) t d = iblk m c (5 : Fin 9) t :=
  ((dats m 0 c).before_in_eq_fetched (5 : Fin 9) rfl (fun _ => rfl) (fun _ _ _ => rfl) (fun t => rfl) t d).trans rfl
theorem before_6 (t : Fin cfg0.N) (d) : (dats m 0 c).before (6 : Fin 9) t d = iblk m c (6 : Fin 9) t :=
  ((dats m 0 c).before_in_eq_fetched (6 : Fin 9) rfl (fun _ => rfl) (fun _ _ _ => rfl) (fun t => rfl) t d).trans rfl
theorem before_7 (t : Fin cfg0.N) (d) : (dats m 0 c).before (7 : Fin 9) t d = iblk m c (7 : Fin 9) t :=
  ((dats m 0 c).before_in_eq_fetched (7 : Fin 9) rfl (fun _ => rfl) (fun _ _ _ => rfl) (fun t => rfl) t d).trans rfl

/-- The input windows at a point, each at its block. -/
def ins (t : Fin cfg0.N) : sProp 𝕄 :=
  iprop(owns (c : Thread nD τ) (st0_0 t) fullShare (iblk m c (0 : Fin 9) t) ∗ owns (c : Thread nD τ) (st0_1 t) fullShare (iblk m c (1 : Fin 9) t) ∗ owns (c : Thread nD τ) (st0_2 t) fullShare (iblk m c (2 : Fin 9) t) ∗ owns (c : Thread nD τ) (st0_3 t) fullShare (iblk m c (3 : Fin 9) t) ∗ owns (c : Thread nD τ) (st0_4 t) fullShare (iblk m c (4 : Fin 9) t) ∗ owns (c : Thread nD τ) (st0_5 t) fullShare (iblk m c (5 : Fin 9) t) ∗ owns (c : Thread nD τ) (st0_6 t) fullShare (iblk m c (6 : Fin 9) t) ∗ owns (c : Thread nD τ) (st0_7 t) fullShare (iblk m c (7 : Fin 9) t))

/-- What is asked of the output window's staging buffer at the end of a point: only the last two points fill it. -/
def outPost (t : Fin cfg0.N) : sProp 𝕄 :=
  match cfg0.idle (8 : Fin 9) (cfg0.grid.coords t) with
  | true => match (cfg0.win (8 : Fin 9)).flush t with
    | false => iprop(∃ d, owns (c : Thread nD τ) (st0_8 t) fullShare ((dats m 0 c).before (8 : Fin 9) t d))
    | true => owns (c : Thread nD τ) (st0_8 t) fullShare ((dats m 0 c).after (8 : Fin 9) t)
  | false => owns (c : Thread nD τ) (st0_8 t) fullShare ((dats m 0 c).after (8 : Fin 9) t)

def outPre (t : Fin cfg0.N) : sProp 𝕄 := iprop(∃ d, owns (c : Thread nD τ) (st0_8 t) fullShare ((dats m 0 c).before (8 : Fin 9) t d))

theorem outPost_idle (t : Fin cfg0.N) (h : cfg0.idle (8 : Fin 9) (cfg0.grid.coords t) = true) (h' : (cfg0.win (8 : Fin 9)).flush t = false) :
    outPost m c t = outPre m c t := by unfold outPost; rw [h, h']; rfl
theorem outPost_last (t : Fin cfg0.N) (h : cfg0.idle (8 : Fin 9) (cfg0.grid.coords t) = false) :
    outPost m c t = (owns (c : Thread nD τ) (st0_8 t) fullShare (outB m c (batch t)) : sProp 𝕄) := by unfold outPost; rw [h]; rfl

/-- The body obligation at a point, the input windows read at their blocks. -/
theorem at_point (t : Fin cfg0.N)
    (h : ∀ Kt : PUnit → sProp 𝕄, iprop(((dats m 0 c).Φ t.castSucc ∗ (dats m 0 c).owesAt () t.castSucc ∗ ins m c t ∗ outPre m c t)
        ∗ (((dats m 0 c).Φ t.succ ∗ (dats m 0 c).owesAt () t.succ ∗ ins m c t ∗ outPost m c t) -∗ Kt ⟨⟩))
      ⊢ wp frame (wpE (defs₀ (F := F)) 𝒱₀ c none) Set.univ (bodyAt0 t) Kt) :
    iprop((dats m 0 c).Φ t.castSucc ∗ (dats m 0 c).owesAt () t.castSucc
        ∗ bigSep Finset.univ fun w : Fin 9 => iprop(∃ d, owns (c : Thread nD τ) ((cfg0.win w).stage (cfg0.slots t w)) fullShare ((dats m 0 c).before w t d)))
      ⊢ wp frame (wpE (defs₀ (F := F)) 𝒱₀ c none) Set.univ (bodyAt0 t) fun _ =>
          iprop((dats m 0 c).Φ t.succ ∗ (dats m 0 c).owesAt () t.succ ∗ owns (c : Thread nD τ) (st0_0 t) fullShare (iblk m c (0 : Fin 9) t) ∗ owns (c : Thread nD τ) (st0_1 t) fullShare (iblk m c (1 : Fin 9) t) ∗ owns (c : Thread nD τ) (st0_2 t) fullShare (iblk m c (2 : Fin 9) t) ∗ owns (c : Thread nD τ) (st0_3 t) fullShare (iblk m c (3 : Fin 9) t) ∗ owns (c : Thread nD τ) (st0_4 t) fullShare (iblk m c (4 : Fin 9) t) ∗ owns (c : Thread nD τ) (st0_5 t) fullShare (iblk m c (5 : Fin 9) t) ∗ owns (c : Thread nD τ) (st0_6 t) fullShare (iblk m c (6 : Fin 9) t) ∗ owns (c : Thread nD τ) (st0_7 t) fullShare (iblk m c (7 : Fin 9) t) ∗ outPost m c t) := by
  rw [bigSep_W0]
  simp only [before_0, before_1, before_2, before_3, before_4, before_5, before_6, before_7]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, H8⟩
  iapply (h fun _ => iprop((dats m 0 c).Φ t.succ ∗ (dats m 0 c).owesAt () t.succ ∗ owns (c : Thread nD τ) (st0_0 t) fullShare (iblk m c (0 : Fin 9) t) ∗ owns (c : Thread nD τ) (st0_1 t) fullShare (iblk m c (1 : Fin 9) t) ∗ owns (c : Thread nD τ) (st0_2 t) fullShare (iblk m c (2 : Fin 9) t) ∗ owns (c : Thread nD τ) (st0_3 t) fullShare (iblk m c (3 : Fin 9) t) ∗ owns (c : Thread nD τ) (st0_4 t) fullShare (iblk m c (4 : Fin 9) t) ∗ owns (c : Thread nD τ) (st0_5 t) fullShare (iblk m c (5 : Fin 9) t) ∗ owns (c : Thread nD τ) (st0_6 t) fullShare (iblk m c (6 : Fin 9) t) ∗ owns (c : Thread nD τ) (st0_7 t) fullShare (iblk m c (7 : Fin 9) t) ∗ outPost m c t))
  isplitr []
  · isplitl [HΦ]; · iexact HΦ
    isplitl [HO]; · iexact HO
    isplitr [H8]
    · unfold ins
      isplitl [H0]; · iexact H0
      isplitl [H1]; · iexact H1
      isplitl [H2]; · iexact H2
      isplitl [H3]; · iexact H3
      isplitl [H4]; · iexact H4
      isplitl [H5]; · iexact H5
      isplitl [H6] <;> iassumption
    unfold outPre; iexact H8
  · unfold ins
    iintro ⟨HΦ, HO, ⟨H0, H1, H2, H3, H4, H5, H6, H7⟩, H8⟩
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption

theorem owes_open (t : Fin (cfg0.N + 1)) (O) (h : (dats m 0 c).owed t = O) :
    ((dats m 0 c).owesAt () t : sProp 𝕄) ⊢ iprop(∃ W, owes (c : Thread nD τ) O W) := by
  unfold Dat.owesAt Pipeline.owesWithin
  rw [h]
  iintro ⟨%W, %hW, HO⟩
  iexists W; iexact HO
theorem owes_shut (t : Fin (cfg0.N + 1)) (O) (h : (dats m 0 c).owed t = O) :
    iprop(∃ W, owes (c : Thread nD τ) O W) ⊢ ((dats m 0 c).owesAt () t : sProp 𝕄) := by
  unfold Dat.owesAt Pipeline.owesWithin
  rw [h]
  iintro ⟨%W, HO⟩
  iexists W
  isplitr; · ipureintro; exact fun _ _ => Or.inl trivial
  iexact HO

theorem Φ_mid (s : Fin (cfg0.N + 1)) (n : ℕ) (h : s.val = n) (h1 : 1 ≤ n) (h2 : n ≤ 7) : (dats m 0 c).Φ s = (Φmid m c n : sProp 𝕄) := by
  subst h
  show (if s.val = 0 then Φ₀ m c else if s.val ≤ 7 then Φmid m c s.val else Φend m c) = _
  rw [if_neg (by omega), if_pos h2]
theorem Φ_end (s : Fin (cfg0.N + 1)) (n : ℕ) (h : s.val = n) (h1 : 8 ≤ n) : (dats m 0 c).Φ s = (Φend m c : sProp 𝕄) := by
  subst h
  show (if s.val = 0 then Φ₀ m c else if s.val ≤ 7 then Φmid m c s.val else Φend m c) = _
  rw [if_neg (by omega), if_neg (by omega)]
theorem owed_later (s : Fin (cfg0.N + 1)) (n : ℕ) (h : s.val = n) (h1 : 1 ≤ n) : (dats m 0 c).owed s = 0 := by
  subst h
  show (if s.val = 0 then O₀ c else 0) = _
  rw [if_neg (by omega)]

/-- The obligation at the points 1 to 6. -/
theorem point_mid (t : Fin cfg0.N) (ht : 1 ≤ t.val ∧ t.val ≤ 6) (h1 : ¬ k0_cond1 (grid0.coords t) = 1#1) (h2 : k0_cond2 (grid0.coords t) = 1#1)
    (h3 : ¬ k0_cond3 (grid0.coords t) = 1#1) (h4 : ¬ k0_cond4 (grid0.coords t) = 1#1)
    (o5 : k0_off5 (grid0.coords t) = ![0, 256 * t.val]) (o6 : k0_off6 (grid0.coords t) = ![0, 256 * t.val])
    (hi : cfg0.idle (8 : Fin 9) (cfg0.grid.coords t) = true) (hf : (cfg0.win (8 : Fin 9)).flush t = false) (Kt : PUnit → sProp 𝕄) :
    iprop(((dats m 0 c).Φ t.castSucc ∗ (dats m 0 c).owesAt () t.castSucc ∗ ins m c t ∗ outPre m c t)
        ∗ (((dats m 0 c).Φ t.succ ∗ (dats m 0 c).owesAt () t.succ ∗ ins m c t ∗ outPost m c t) -∗ Kt ⟨⟩))
      ⊢ wp frame (wpE (defs₀ (F := F)) 𝒱₀ c none) Set.univ (bodyAt0 t) Kt := by
  rw [outPost_idle m c t hi hf]
  have e0 : (dats m 0 c).Φ t.castSucc = (Φmid m c t.val : sProp 𝕄) := Φ_mid m c _ t.val rfl (by omega) (by omega)
  have e1 : (dats m 0 c).Φ t.succ = (Φmid m c (t.val + 1) : sProp 𝕄) := Φ_mid m c _ (t.val + 1) rfl (by omega) (by omega)
  have w0 : (dats m 0 c).owed t.castSucc = 0 := owed_later m c _ t.val rfl (by omega)
  have w1 : (dats m 0 c).owed t.succ = 0 := owed_later m c _ (t.val + 1) rfl (by omega)
  rw [e0, e1]
  unfold ins
  iintro ⟨⟨HΦ, HO, ⟨H0, H1, H2, H3, H4, H5, H6, H7⟩, H8⟩, Hkt⟩
  ihave HO := (owes_open m c t.castSucc 0 w0) $$ HO
  ihave HO := (owes_shut m c t.succ 0 w1) $$ HO
  iapply (sound_mid m c (grid0.coords t) _ _ _ _ _ _ _ _ _ _ _ _ _ _ _ _ _ _ t h1 h2 h3 h4 o5 o6 Kt)
  isplitl [HΦ H4 H7]
  · isplitl [HΦ]; · iexact HΦ
    isplitl [H4]; · iexact H4
    iexact H7
  iintro ⟨HΦ, H4, H7⟩
  iapply Hkt
  isplitl [HΦ]; · iexact HΦ
  isplitl [HO]; · iexact HO
  isplitr [H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact H8

/-- The obligation at point 7. -/
theorem point_seven (Kt : PUnit → sProp 𝕄) :
    iprop(((dats m 0 c).Φ t0_7.castSucc ∗ (dats m 0 c).owesAt () t0_7.castSucc ∗ ins m c t0_7 ∗ outPre m c t0_7)
        ∗ (((dats m 0 c).Φ t0_7.succ ∗ (dats m 0 c).owesAt () t0_7.succ ∗ ins m c t0_7 ∗ outPost m c t0_7) -∗ Kt ⟨⟩))
      ⊢ wp frame (wpE (defs₀ (F := F)) 𝒱₀ c none) Set.univ (bodyAt0 t0_7) Kt := by
  rw [outPost_idle m c t0_7 (by decide) (by decide)]
  have e0 : (dats m 0 c).Φ t0_7.castSucc = (Φmid m c t0_7.val : sProp 𝕄) := rfl
  have e1 : (dats m 0 c).Φ t0_7.succ = (Φend m c : sProp 𝕄) := rfl
  rw [e0, e1]
  unfold ins
  iintro ⟨⟨HΦ, HO, ⟨H0, H1, H2, H3, H4, H5, H6, H7⟩, H8⟩, Hkt⟩
  ihave HO := (owes_open m c t0_7.castSucc 0 rfl) $$ HO
  icases HO with ⟨%W, HO⟩
  iapply (sound_last m c (grid0.coords t0_7) _ _ _ _ _ _ _ _ _ _ _ _ _ _ _ _ _ _ t0_7 (by decide) (by decide) (by decide) (by decide) rfl
    (by decide) (by decide) W Kt)
  isplitl [HΦ HO H4 H7]
  · isplitl [HΦ]; · iexact HΦ
    isplitl [HO]; · iexact HO
    isplitl [H4]; · iexact H4
    iexact H7
  iintro ⟨HΦ, HO, H4, H7⟩
  ihave HO := (owes_shut m c t0_7.succ 0 rfl) $$ HO
  iapply Hkt
  isplitl [HΦ]; · iexact HΦ
  isplitl [HO]; · iexact HO
  isplitr [H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact H8

/-- The obligation at point 0. -/
theorem point_zero (Kt : PUnit → sProp 𝕄) :
    iprop(((dats m 0 c).Φ t0_0.castSucc ∗ (dats m 0 c).owesAt () t0_0.castSucc ∗ ins m c t0_0 ∗ outPre m c t0_0)
        ∗ (((dats m 0 c).Φ t0_0.succ ∗ (dats m 0 c).owesAt () t0_0.succ ∗ ins m c t0_0 ∗ outPost m c t0_0) -∗ Kt ⟨⟩))
      ⊢ wp frame (wpE (defs₀ (F := F)) 𝒱₀ c none) Set.univ (bodyAt0 t0_0) Kt := by
  rw [outPost_idle m c t0_0 (by decide) (by decide)]
  have e0 : (dats m 0 c).Φ t0_0.castSucc = (Φ₀ m c : sProp 𝕄) := rfl
  have e1 : (dats m 0 c).Φ t0_0.succ = (Φmid m c (t0_0.val + 1) : sProp 𝕄) := rfl
  rw [e0, e1]
  unfold ins
  iintro ⟨⟨HΦ, HO, Hin, H8⟩, Hkt⟩
  ihave HO := (owes_open m c t0_0.castSucc (O₀ c) rfl) $$ HO
  icases HO with ⟨%W, HO⟩
  iapply (sound_first m c (grid0.coords t0_0) _ _ _ _ _ _ _ _ _ _ _ _ _ _ _ _ _ _ t0_0 (by decide) (by decide) (by decide) (by decide) rfl
    (by decide) (by decide) W Kt)
  isplitl [HΦ HO Hin]
  · isplitl [HΦ]; · iexact HΦ
    isplitl [HO]; · iexact HO
    iexact Hin
  iintro ⟨HΦ, HO, Hin⟩
  ihave HO := (owes_shut m c t0_0.succ 0 rfl) $$ HO
  iapply Hkt
  isplitl [HΦ]; · iexact HΦ
  isplitl [HO]; · iexact HO
  isplitl [Hin]; · iexact Hin
  iexact H8

/-- The obligation at a point of the last two. -/
theorem point_end (t : Fin cfg0.N) (ht : 8 ≤ t.val) (h1 : ¬ k0_cond1 (grid0.coords t) = 1#1) (h2 : ¬ k0_cond2 (grid0.coords t) = 1#1)
    (h3 : ¬ k0_cond3 (grid0.coords t) = 1#1) (h4 : k0_cond4 (grid0.coords t) = 1#1)
    (o9 : k0_off9 (grid0.coords t) = ![512 * (batch t).val, 0]) (o10 : k0_off10 (grid0.coords t) = ![512 * (batch t).val, 0])
    (o11 : k0_off11 (grid0.coords t) = ![512 * (batch t).val, 0]) (o12 : k0_off12 (grid0.coords t) = ![512 * (batch t).val, 0])
    (hi : cfg0.idle (8 : Fin 9) (cfg0.grid.coords t) = false) (Kt : PUnit → sProp 𝕄) :
    iprop(((dats m 0 c).Φ t.castSucc ∗ (dats m 0 c).owesAt () t.castSucc ∗ ins m c t ∗ outPre m c t)
        ∗ (((dats m 0 c).Φ t.succ ∗ (dats m 0 c).owesAt () t.succ ∗ ins m c t ∗ outPost m c t) -∗ Kt ⟨⟩))
      ⊢ wp frame (wpE (defs₀ (F := F)) 𝒱₀ c none) Set.univ (bodyAt0 t) Kt := by
  rw [outPost_last m c t hi]
  have e0 : (dats m 0 c).Φ t.castSucc = (Φend m c : sProp 𝕄) := Φ_end m c _ t.val rfl (by omega)
  have e1 : (dats m 0 c).Φ t.succ = (Φend m c : sProp 𝕄) := Φ_end m c _ (t.val + 1) rfl (by omega)
  have w0 : (dats m 0 c).owed t.castSucc = 0 := owed_later m c _ t.val rfl (by omega)
  have w1 : (dats m 0 c).owed t.succ = 0 := owed_later m c _ (t.val + 1) rfl (by omega)
  rw [e0, e1]
  unfold outPre
  iintro ⟨⟨HΦ, HO, Hin, ⟨%d8, H8⟩⟩, Hkt⟩
  ihave HO := (owes_open m c t.castSucc 0 w0) $$ HO
  ihave HO := (owes_shut m c t.succ 0 w1) $$ HO
  iapply (sound_end m c (grid0.coords t) _ _ _ _ _ _ _ _ _ _ _ _ _ _ _ _ _ _ (batch t) h1 h2 h3 h4 o9 o10 o11 o12 _ Kt)
  isplitl [HΦ H8]
  · isplitl [HΦ]; · iexact HΦ
    iexact H8
  iintro ⟨HΦ, H8⟩
  iapply Hkt
  isplitl [HΦ]; · iexact HΦ
  isplitl [HO]; · iexact HO
  isplitl [Hin]; · iexact Hin
  iexact H8

set_option maxRecDepth 65536 in
theorem body_obligation : BodyObligation (dats (F := F) m 0 c) (defs₀ (F := F)) 𝒱₀ () Set.univ := fun t => by
  have key : ∀ Kt : PUnit → sProp 𝕄, iprop(((dats m 0 c).Φ t.castSucc ∗ (dats m 0 c).owesAt () t.castSucc ∗ ins m c t ∗ outPre m c t)
        ∗ (((dats m 0 c).Φ t.succ ∗ (dats m 0 c).owesAt () t.succ ∗ ins m c t ∗ outPost m c t) -∗ Kt ⟨⟩))
      ⊢ wp frame (wpE (defs₀ (F := F)) 𝒱₀ c none) Set.univ (bodyAt0 t) Kt := by
    rcases fin_N0 t with rfl | rfl | rfl | rfl | rfl | rfl | rfl | rfl | rfl | rfl
    · exact point_zero m c
    · exact point_mid m c t0_1 (by decide) (by decide) (by decide) (by decide) (by decide) (by decide) (by decide) (by decide) (by decide)
    · exact point_mid m c t0_2 (by decide) (by decide) (by decide) (by decide) (by decide) (by decide) (by decide) (by decide) (by decide)
    · exact point_mid m c t0_3 (by decide) (by decide) (by decide) (by decide) (by decide) (by decide) (by decide) (by decide) (by decide)
    · exact point_mid m c t0_4 (by decide) (by decide) (by decide) (by decide) (by decide) (by decide) (by decide) (by decide) (by decide)
    · exact point_mid m c t0_5 (by decide) (by decide) (by decide) (by decide) (by decide) (by decide) (by decide) (by decide) (by decide)
    · exact point_mid m c t0_6 (by decide) (by decide) (by decide) (by decide) (by decide) (by decide) (by decide) (by decide) (by decide)
    · exact point_seven m c
    · exact point_end m c t0_8 (by decide) (by decide) (by decide) (by decide) (by decide) (by decide) (by decide) (by decide) (by decide) (by decide)
    · exact point_end m c t0_9 (by decide) (by decide) (by decide) (by decide) (by decide) (by decide) (by decide) (by decide) (by decide) (by decide)
  have h := at_point m c t key
  rw [bigSep_W0] at h
  rw [bigSep_W0, bigSep_W0]
  exact h

end Cert.Mla

end
-- ==== Proof.Launch.lean ====
/-
  The launch: the cells' invariants allocated, the duty tokens and the launch credits dealt, and the run of @main on the four devices.
-/
module

public import proofs.«01_k».proof.Proof.Body
public import Idealize.ShloMosaic.Lib.Pipeline.CollectiveSegs

@[expose] public section

noncomputable section

namespace Cert.Mla

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: the six of the copies. -/
def osem : Fin 6 → SemLoc sig := fun k => csem k.succ

theorem ownSemFacts : Pipeline.OwnSemFacts cfg0.spec osem := by decide
theorem share_eq (c : Dev nD) (w : Fin cfg0.W) : (dats m 0 c).share w = fullShare := by unfold Dat.share; split <;> rfl

theorem kcell_injective : Function.Injective (kcell : Dev nD × Fin 7 → GSem nD τ sig) := fun a b h =>
  Prod.ext (congrArg (fun g : GSem nD τ sig => g.1.1) h) (csem_injective (congrArg Prod.snd h))

/-- Every cell of every device. -/
def allCells : Finset (GSem nD τ sig) := Finset.univ.map ⟨kcell, kcell_injective⟩
/-- One duty token a cell. -/
def allToks : Finset (GSem nD τ sig × ℕ × Unit) :=
  Finset.univ.map ⟨fun ck : Dev nD × Fin 7 => (kcell ck, 0, ()), fun _ _ h => kcell_injective (congrArg Prod.fst h)⟩

def u₀ : UU := (initOf (Pipeline.cells cfgs cellOf_inj) (Pipeline.launchToks cfgs cellOf_inj), initOf allCells allToks)

/-- The duty tokens of a device's own cells. -/
def toks (c : Dev nD) : sProp 𝕄 := bigSep Finset.univ fun k : Fin 7 => dutyTok ER (kcell (c, k)) 0 ()

/-- What a device is dealt of its own cells at launch. -/
def G (c : Dev nD) : sProp 𝕄 :=
  iprop((bigSep Finset.univ fun k : Fin 7 => roundState ER (sched m) (kcell (c, k)) 0)
    ∗ (bigSep Finset.univ fun k : Fin 7 => iprop(atPos ER (kcell (c, k)) 0 ∅ 0 ∗ reached ER (kcell (c, k)) 0)) ∗ toks c)
/-- What it starts from: all the invariants, its positions, and the tokens of the duties it pays. -/
def G' (c : Dev nD) : sProp 𝕄 := iprop(∃ K, ghost m K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
theorem over_cells (Φ : GSem nD τ sig → sProp 𝕄) :
    bigSep allCells Φ = bigSep Finset.univ fun c : Dev nD => bigSep Finset.univ fun k : Fin 7 => Φ (kcell (c, k)) := by
  unfold allCells; rw [bigSep_map, bigSep_univ_prod]; rfl
omit [FloatOps F] in
theorem over_toks : bigSep allToks (fun x => (dutyTok ER x.1 x.2.1 x.2.2 : sProp 𝕄)) = bigSep Finset.univ fun c : Dev nD => toks c := by
  unfold allToks; rw [bigSep_map, bigSep_univ_prod]; rfl

theorem fund_cells : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst := (Entails.of_eq (over_cells fun g => roundState ER (sched m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G; simp only [bigSep_sep']
  isplitl [Hst]; · iexact Hst
  isplitl [Hat Hr]
  · isplitl [Hat] <;> iassumption
  iexact Htok

omit [FloatOps F] in
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl
omit [FloatOps F] in
theorem sems_at_zero (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨HS, HB⟩
  isplitl [HB] <;> iassumption

/-- One device's cells become invariants. -/
theorem cells_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  have alloc : iprop((bigSep Finset.univ fun k : Fin 7 => semVal (kcell (c, k)) 0) ∗ bigSep Finset.univ fun k : Fin 7 => roundState ER (sched m) (kcell (c, k)) 0)
      ⊢ (|={Set.univ}=> bigSep Finset.univ fun k => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  unfold G
  iintro ⟨Hos, Hus, Hst, Hat, Htok⟩
  ihave Hv := (sems_at_zero (F := F) c) $$ [Hos Hus]
  · isplitl [Hos] <;> iassumption
  imod alloc $$ [Hv Hst] with Hinv
  · isplitl [Hv] <;> iassumption
  imodintro
  isplitl [Hinv]; · iexact Hinv
  isplitl [Hat]; · iexact Hat
  iexact Htok

omit [FloatOps F] in
/-- The tokens dealt across each pair: a barrier's and the arrivals' tokens to the peer, the departures' kept. -/
theorem toks_across : (bigSep Finset.univ fun c : Dev nD => (toks c : sProp 𝕄)) ⊢ bigSep Finset.univ fun c : Dev nD => payToks c := by
  have at7 (c : Dev nD) : (toks c : sProp 𝕄) = iprop(dutyTok ER (kcell (c, 0)) 0 () ∗ dutyTok ER (kcell (c, 1)) 0 () ∗ dutyTok ER (kcell (c, 2)) 0 ()
      ∗ dutyTok ER (kcell (c, 3)) 0 () ∗ dutyTok ER (kcell (c, 4)) 0 () ∗ dutyTok ER (kcell (c, 5)) 0 () ∗ dutyTok ER (kcell (c, 6)) 0 ()) := by
    unfold toks; rw [bigSep_fin7]
  have sw (k : Fin 7) : (bigSep Finset.univ fun c : Dev nD => (dutyTok ER (kcell (c, k)) 0 () : sProp 𝕄))
      ⊢ bigSep Finset.univ fun c : Dev nD => dutyTok ER (kcell (peer c, k)) 0 () :=
    Entails.of_eq (bigSep_univ_equiv swap fun c : Dev nD => (dutyTok ER (kcell (c, k)) 0 () : sProp 𝕄))
  simp only [at7]
  unfold payToks
  simp only [bigSep_sep']
  iintro ⟨T0, T1, T2, T3, T4, T5, T6⟩
  isplitl [T0]; · iapply (sw 0); iexact T0
  isplitl [T1 T2 T3]
  · isplitl [T1]; · iexact T1
    isplitl [T2] <;> iassumption
  isplitl [T4]; · iapply (sw 4); iexact T4
  isplitl [T5]; · iapply (sw 5); iexact T5
  iapply (sw 6); iexact T6

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (sched m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m) κ (kcell ck) : sProp 𝕄))) $$ HI
  icases HK with ⟨%K, #HI⟩
  ihave Htk := (toks_across (F := F)) $$ Htok
  iapply (with_persistent (R := records m K) (Φ := fun c => iprop((bigSep Finset.univ fun k : Fin 7 => atPos ER (kcell (c, k)) 0 ∅ 0) ∗ payToks c))
    (fun c _ => by
      rw [bigSep_fin7]
      iintro ⟨HR, Hp, Ht⟩
      unfold G' ghost poss
      iexists K
      isplitl [HR]; · iexact HR
      isplitl [Hp] <;> iassumption))
  isplitr
  · unfold records; isplitl; · iexact HI
    iexact HR
  · rw [bigSep_sep']
    isplitl [Hat] <;> iassumption

/-- Every device's cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => cells_alloc m c).trans (bigSep_fupd _ _)).trans (BI.fupd_mono (regroup m))

/-! ### The launch credits -/

/-- How much a device owes its peer's cell `k` at launch. -/
def due : Fin 7 → ℕ := fun | 0 => 1 | 4 => cN | 5 => kN | 6 => vN | _ => 0

theorem owed_at (d c : Dev nD) (k : Fin 7) : O₀ d (kcell (c, k)) () = if d = peer c then due k else 0 := by
  have t (k' : Fin 7) (n : ℕ) : (tallyAt (kcell (peer d, k')) () n : CellTallies nD τ sig Unit) (kcell (c, k)) () = if d = peer c ∧ k = k' then n else 0 := by
    rw [tallyAt_apply]
    by_cases h : d = peer c ∧ k = k'
    · rw [if_pos h, if_pos ⟨by rw [h.1, peer_peer, h.2], rfl⟩]
    · rw [if_neg h, if_neg fun h' => h (by
        have e := kcell_injective h'.1
        have e1 : c = peer d := congrArg Prod.fst e
        exact ⟨by rw [e1, peer_peer], congrArg Prod.snd e⟩)]
  unfold O₀ O₁
  rw [Pi.add_apply, Finsupp.add_apply, Pi.add_apply, Finsupp.add_apply, Pi.add_apply, Finsupp.add_apply, t, t, t, t]
  by_cases h : d = peer c
  · simp only [h, _root_.true_and, if_true]; fin_cases k <;> simp [due]
  · simp [h]

theorem launch_at (c : Dev nD) (k : Fin 7) :
    tallyOn (kcell (c, k)) (launchCredit (Pipeline.owing O₀) 0 (kcell (c, k))) = (tallyAt (kcell (c, k)) () (due k) : CellTallies nD τ sig Unit) := by
  unfold tallyAt; refine congrArg _ (Finsupp.ext fun u => ?_); cases u
  rw [Pipeline.launchCredit_owing, Finsupp.single_eq_same, Finset.sum_congr rfl fun d _ => owed_at d c k, Finset.sum_ite_eq' Finset.univ (peer c) fun _ => due k,
    if_pos (Finset.mem_univ _)]

omit [FloatOps F] in
theorem creds (c : Dev nD) :
    (Pipeline.launchCred O₀ c : sProp 𝕄) ⊢ iprop(cred (tallyAt (kcell (c, 0)) () 1) ∗ recvCreds c) := by
  have e (k : Fin 7) : (cred (tallyOn (kcell (c, k)) (launchCredit (Pipeline.owing O₀) 0 (kcell (c, k)))) : sProp 𝕄) = cred (tallyAt (kcell (c, k)) () (due k)) := by
    rw [launch_at]
  have drop : (Pipeline.launchCred O₀ c : sProp 𝕄)
      ⊢ bigSep (Finset.univ.map ⟨csem, csem_injective⟩) fun s => (cred (tallyOn ((c : Thread nD τ), s) (launchCredit (Pipeline.owing O₀) 0 ((c : Thread nD τ), s))) : sProp 𝕄) :=
    bigSep_subset (Finset.subset_univ _)
  refine drop.trans ?_
  rw [bigSep_map, bigSep_fin7]
  iintro ⟨H0, -, -, -, H4, H5, H6⟩
  unfold recvCreds
  isplitl [H0]; · iapply (Entails.of_eq (e 0)); iexact H0
  isplitl [H4]; · iapply (Entails.of_eq (e 4)); iexact H4
  isplitl [H5]; · iapply (Entails.of_eq (e 5)); iexact H5
  iapply (Entails.of_eq (e 6)); iexact H6

/-! ### The run's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

omit [FloatOps F] in
/-- A whole buffer's points-to is its ownership. -/
theorem whole_any (c : Dev nD) (b : Ref sig .tc) :
    iprop(∃ f : Buf (Elt F) ((c : Thread nD τ).loc b), ((c : Thread nD τ).loc b) ↦{fullShare} f)
      ⊢ (iprop(∃ f, owns (c : Thread nD τ) (Memref.whole b) fullShare f) : sProp 𝕄) := by
  iintro ⟨%f, H⟩
  iexists f
  iapply (Entails.of_eq (owns_whole (c : Thread nD τ) b fullShare f).symm)
  iexact H
omit [FloatOps F] in
theorem any_whole (c : Dev nD) (b : Ref sig .tc) (X : b.ty.Contents (Elt F)) :
    (owns (c : Thread nD τ) (Memref.whole b) fullShare X : sProp 𝕄)
      ⊢ iprop(∃ f : Buf (Elt F) ((c : Thread nD τ).loc b), ((c : Thread nD τ).loc b) ↦{fullShare} f) := by
  iintro H
  iexists X
  iapply (Entails.of_eq (owns_whole (c : Thread nD τ) b fullShare X))
  iexact H

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ outAny
  iintro ⟨Hs, -, H0, H1, H2, H3, H4, H5, H6, H7, H8⟩
  isplitl [Hs]; · iexact Hs
  isplitl [H0]; · iapply (whole_any c cc0_scratch0); iexact H0
  isplitl [H1]; · iapply (whole_any c cc0_scratch1); iexact H1
  isplitl [H2]; · iapply (whole_any c cc0_scratch2); iexact H2
  isplitl [H3]; · iapply (whole_any c cc0_scratch3); iexact H3
  isplitl [H4]; · iapply (whole_any c cc0_scratch4); iexact H4
  isplitl [H5]; · iapply (whole_any c cc0_scratch5); iexact H5
  isplitl [H6]; · iapply (whole_any c cc0_scratch6); iexact H6
  isplitl [H7]; · iapply (whole_any c cc0_scratch7); iexact H7
  iapply (whole_any c cc0_scratch8); iexact H8

theorem phi_exit (c : Dev nD) :
    (dats m 0 c).Φ (Fin.last cfg0.N) ⊢ iprop(unscopedSems0 c ∗ Pipeline.ownSems0 osem c ∗ Pipeline.scopedRest cfg0.spec c) := by
  rw [Φ_end m c (Fin.last cfg0.N) 10 rfl (by decide), scopedRest0_eq, ownSems0_eq, unscopedSems0_eq]
  unfold Φend projs closed outAny
  iintro ⟨⟨Hxb, Hqr, Hkr⟩, Hc, Hk, Hv, Hq, Hwo, ⟨%fo, Ho⟩, Z0, Z⟩
  isplitl [Z0]; · iexact Z0
  isplitl [Z]; · iexact Z
  isplitl [Hxb]; · iapply (any_whole c cc0_scratch0 (XB m c)); iexact Hxb
  isplitl [Hc]; · iapply (any_whole c cc0_scratch1 (Cf m c)); iexact Hc
  isplitl [Hk]; · iapply (any_whole c cc0_scratch2 (Kf m c)); iexact Hk
  isplitl [Hv]; · iapply (any_whole c cc0_scratch3 (Vf m c)); iexact Hv
  isplitl [Hq]; · iapply (any_whole c cc0_scratch4 (Qv m c)); iexact Hq
  isplitl [Hqr]; · iapply (any_whole c cc0_scratch5 (QR m c)); iexact Hqr
  isplitl [Hkr]; · iapply (any_whole c cc0_scratch6 (KR m c)); iexact Hkr
  isplitl [Hwo]; · iapply (any_whole c cc0_scratch7 (Wv m c)); iexact Hwo
  iapply (any_whole c cc0_scratch8 fo); iexact Ho

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      by_cases h : t.val = 0
      · left; show (if t.val = 0 then O₀ c else 0) = _; rw [if_pos h]
      · right; show (if t.val = 0 then O₀ c else 0) = _; rw [if_neg h])

/-! ### The run -/

/-- The initial state: memory `m`, every semaphore at zero. -/
abbrev s₀ : MemSt nD τ sig (Elt F) := ⟨m, fun _ => 0, ρ⟩

/-- The contents the run leaves an operand's array with. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every weakly fair execution of @main on the four devices ends, with each operand's array at `finalA` and every semaphore
    at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mla

end
-- ==== Proof.Frames.lean ====
module

public import proofs.«01_k».proof.Defs
public import proofs.«01_k».proof.Proof.Launch
public import proofs.«01_k».proof.Proof.Gen.Kernel
public import proofs.«01_k».proof.Proof.Gen.ReferenceIdeal.Run

@[expose] public section

noncomputable section

/-! The frames of the three programs: the kernel's from its run (Launch.lean) at the two interpretations, the reference's
    from its list of host operations. -/

namespace Cert.Mla

open Cert.KernelIdeal Cert.KernelIdeal.Gen Cert.Kernel.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The kernel's run: the result array of each device at what the write-backs leave, its arguments as they were, every
    semaphore at zero. -/
theorem run_kernel : θ_run defs (onTc (τ := τ) (main (F := F))) ⟨m, fun _ => 0, ρ⟩ (fun r => (∀ c : Dev nD,
      r.2.mem ((c.tc : Thread nD τ).loc main_v1) = finalA m c 8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨h.1 c 8,
      (h.1 c 0).trans (((dats m 0 c).arrAt_in 0 rfl _).trans (V_main_arg0 m c)),
      (h.1 c 1).trans (((dats m 0 c).arrAt_in 1 rfl _).trans (V_main_arg1 m c)),
      (h.1 c 2).trans (((dats m 0 c).arrAt_in 2 rfl _).trans (V_main_arg2 m c)),
      (h.1 c 3).trans (((dats m 0 c).arrAt_in 3 rfl _).trans (V_main_arg3 m c)),
      (h.1 c 4).trans (((dats m 0 c).arrAt_in 4 rfl _).trans (V_main_arg4 m c)),
      (h.1 c 5).trans (((dats m 0 c).arrAt_in 5 rfl _).trans (V_main_arg5 m c)),
      (h.1 c 6).trans (((dats m 0 c).arrAt_in 6 rfl _).trans (V_main_arg6 m c)),
      (h.1 c 7).trans (((dats m 0 c).arrAt_in 7 rfl _).trans (V_main_arg7 m c))⟩, h.2⟩) (run_main m ρ)

/-- The printed kernel's body table and the idealized one's are one text. -/
theorem bodies_text : Cert.Kernel.defs₀ (F := Bits) = Cert.KernelIdeal.defs₀ (F := Bits) := by
  unfold Cert.Kernel.defs₀ Cert.KernelIdeal.defs₀
  refine congrArg Defs.onTc (funext fun l => ?_)
  match l with
  | 0 =>
    funext ⟨t, s⟩
    exact rfl

theorem defs_text : Cert.Kernel.defs (F := Bits) = Cert.KernelIdeal.defs (F := Bits) :=
  congrArg (Pipeline.defs (Cert.KernelIdeal.pcfgs (F := Bits))) bodies_text

/-- The kernel as printed: its text is the idealized one's, so its run is the same run at the machine's floats. -/
theorem frame_printed : @Cert.quiescent_Kernel Cert.Kernel.Gen.facts := by
  intro m g _
  rw [defs_text]
  exact (θ_run Cert.KernelIdeal.defs _ _).mono (fun _ h => ⟨fun c => (h.1 c).2, h.2⟩) (run_kernel (F := Bits) m g)

theorem frame_idealized : @Cert.quiescent_KernelIdeal Cert.KernelIdeal.Gen.facts := fun m g _ =>
  (θ_run defs _ _).mono (fun _ h => ⟨fun c => (h.1 c).2, h.2⟩) (run_kernel (F := Ideal) m g)

/-- The reference declares no semaphore, so its counters are all zero. -/
theorem frame_reference : @Cert.quiescent_ReferenceIdeal Cert.ReferenceIdeal.Gen.facts := fun m g _ =>
  (θ_run Cert.ReferenceIdeal.defs _ _).mono (fun r h => ⟨fun c => (h c).2, sem_eq_zero_of_no_sems rfl r.2⟩)
    (Cert.ReferenceIdeal.Value.run (F := Ideal) m g)

end Cert.Mla

end
-- ==== Proof.Head.lean ====
/-
  The sixteen head payloads are one function of the head's columns, and that function read at an index.
-/
module

public import proofs.«01_k».proof.Proof.Contents
public import Idealize.ShloMosaic.Lib.MatmulPlain
public import Idealize.ShloMosaic.Lib.Pipeline.Value

@[expose] public section

noncomputable section

namespace Cert.Mla

open Cert.KernelIdeal Cert.KernelIdeal.Gen
open Idealize.ShloMosaic
open Idealize.ShloMosaic.ValueIdx
open scoped BigOperators

section Text

variable {F : FTy → Type} [FloatOps F]

/-- `n` columns of an array, from column `o` on. -/
def cols {k N : Nat} (n o : Nat) (h : o + n ≤ N) (v : FVec F ⟨2, ![k, N]⟩ .bf16) : FVec F ⟨2, ![k, n]⟩ .bf16 :=
  fun j => v (ix2 (n0 := k) (n1 := N) (j 0) ⟨o + (j 1).val, by have := idx2_lt1 j; omega⟩)

theorem slice_cols {k N n o : Nat} (h : o + n ≤ N) (v : FVec F ⟨2, ![k, N]⟩ .bf16)
    (hs : (⟨2, ![k, N]⟩ : Shape).Slices ![0, o] ⟨2, ![k, n]⟩) : extractStridedSlice ⟨2, ![k, n]⟩ ![0, o] v hs = cols n o h v := by
  funext j
  exact extractStridedSlice_apply _ v hs j _ fun a => by
    match a with
    | ⟨0, _⟩ => exact (Nat.zero_add _).symm
    | ⟨1, _⟩ => rfl

/-- A head's queries or keys: its own columns, the rotary ones, and zeros up to the width of the multiplier. -/
def joined (a : FVec F S512x128 .bf16) (r : FVec F S512x32 .bf16) : FVec F S512x256 .bf16 :=
  concatenate S512x256 1 [⟨S512x128, a⟩, ⟨S512x32, r⟩, ⟨S512x96, k0_pay13 (F := F)⟩] concatenates_S512x128_S512x32_S512x96_S512x256_d1

/-- The exponentials of a head's scores. -/
def expo (q : FVec F S512x128 .bf16) (qr : FVec F S512x32 .bf16) (k : FVec F S512x128 .bf16) (kr : FVec F S512x32 .bf16) : FVec F S512x512 .bf16 :=
  exp (truncf .bf16 (matmul dot_S512x256_S512x256_S512x512_1_1_0_0_n_n none (joined q qr) (joined k kr) (constant S512x512 .f32 0x00000000#32)) bitsLt_bf16_f32)

/-- The reciprocals of the rows' sums. -/
def recip (p : FVec F S512x512 .bf16) : FVec F S512x1 .f32 :=
  divf (broadcast S512x1 (Scalar.ofBits .f32 0x3F800000#32 : F .f32))
    (shapeCast S512x1 (multiReduction .add [1] S512 (extf .f32 p bitsLt_bf16_f32) 0x00000000#32 reduces_S512x512_S512 (.inl rfl) rfl) shapeCasts_S512_S512x1)

/-- One head. -/
def attn (q : FVec F S512x128 .bf16) (qr : FVec F S512x32 .bf16) (k : FVec F S512x128 .bf16) (kr : FVec F S512x32 .bf16) (v : FVec F S512x128 .bf16) :
    FVec F S512x128 .bf16 :=
  shapeCast S512x128 (truncf .bf16 (mulf
    (matmul dot_S512x512_S512x128_S512x128_1_0_0_1_n_n none (expo q qr k kr) v (constant S512x128 .f32 0x00000000#32))
    (broadcastTo S512x128 (recip (expo q qr k kr)) broadcasts_S512x1_S512x128)) bitsLt_bf16_f32) shapeCasts_S512x128_S512x128

variable (v24 : Vec F S512x256 .bf16) (v25 v28 : Vec F S256x2048 .bf16) (v32 : Vec F S512x32 .bf16) (v34 : Vec F S512x2048 .bf16) (v36 : Vec F S512x512 .bf16)

theorem attn_cols (h : Fin 16) (hs : S512x2048.Slices ![0, 128 * h.val] S512x128) (hr : S512x512.Slices ![0, 32 * h.val] S512x32) :
    attn (extractStridedSlice S512x128 ![0, 128 * h.val] v34 hs) (extractStridedSlice S512x32 ![0, 32 * h.val] v36 hr)
        (extractStridedSlice S512x128 ![0, 128 * h.val] (k0_pay11 v24 v25) hs) v32 (extractStridedSlice S512x128 ![0, 128 * h.val] (k0_pay12 v24 v28) hs)
      = attn (cols (k := 512) (N := 2048) 128 (128 * h.val) (by omega) v34) (cols (k := 512) (N := 512) 32 (32 * h.val) (by omega) v36)
        (cols (k := 512) (N := 2048) 128 (128 * h.val) (by omega) (k0_pay11 v24 v25)) v32
        (cols (k := 512) (N := 2048) 128 (128 * h.val) (by omega) (k0_pay12 v24 v28)) := by
  rw [slice_cols (k := 512) (N := 2048) (by omega) v34 hs, slice_cols (k := 512) (N := 512) (by omega) v36 hr,
    slice_cols (k := 512) (N := 2048) (by omega) (k0_pay11 v24 v25) hs, slice_cols (k := 512) (N := 2048) (by omega) (k0_pay12 v24 v28) hs]

/-- Every head is the one function of its columns. -/
theorem headPay_eq (h : Fin 16) : headPay v24 v25 v28 v32 v34 v36 h
    = attn (cols (k := 512) (N := 2048) 128 (128 * h.val) (by omega) v34) (cols (k := 512) (N := 512) 32 (32 * h.val) (by omega) v36)
        (cols (k := 512) (N := 2048) 128 (128 * h.val) (by omega) (k0_pay11 v24 v25)) v32
        (cols (k := 512) (N := 2048) 128 (128 * h.val) (by omega) (k0_pay12 v24 v28)) := by
  refine Eq.trans ?_ (attn_cols v24 v25 v28 v32 v34 v36 h (by revert h; decide) (by revert h; decide))
  fin_cases h <;> rfl

end Text

end Cert.Mla

end
-- ==== Proof.Softmax.lean ====
/-
  The algebra of one attention row over the extended reals: a row of real scores normalised after its product with the values
  (no maximum taken off), against the same row normalised before it, the row's greatest score taken off. The values may be infinite.
-/
module

public import Idealize.ShloMosaic.PureOps.Ideal.Laws

@[expose] public section

noncomputable section

namespace Cert.Mla

open Idealize.ShloMosaic
open scoped BigOperators

/-- A sum of reals, each read as an extended real, is the real sum. -/
theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor distributes over a sum of any extended reals. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A quotient of reals with a positive denominator. -/
theorem div_real (a b : ℝ) (hb : 0 < b) : Ideal.div (a : EReal) (b : EReal) = ((a * b⁻¹ : ℝ) : EReal) := by
  have h0 : (b : EReal) ≠ 0 := by exact_mod_cast hb.ne'
  unfold Ideal.div
  rw [if_neg h0, ← EReal.coe_inv, ← EReal.coe_mul]

/-- The row, normalised after the product, is the row normalised before it with `M` taken off every score. -/
theorem row_softmax {n : Nat} (hn : 0 < n) (s : Fin n → ℝ) (v : Fin n → EReal) (M : ℝ) :
    (∑ j, Ideal.exp (s j : EReal) * v j) * Ideal.div 1 (∑ j, Ideal.exp (s j : EReal))
      = ∑ j, v j * Ideal.div (Ideal.exp ((s j : EReal) - (M : EReal))) (0 + ∑ k, Ideal.exp ((s k : EReal) - (M : EReal))) := by
  have hne : (Finset.univ : Finset (Fin n)).Nonempty := ⟨⟨0, hn⟩, Finset.mem_univ _⟩
  have e1 : ∀ j, Ideal.exp (s j : EReal) = ((Real.exp (s j) : ℝ) : EReal) := fun _ => rfl
  have e2 : ∀ j, Ideal.exp ((s j : EReal) - (M : EReal)) = ((Real.exp (s j - M) : ℝ) : EReal) := fun j => by
    rw [← EReal.coe_sub]; rfl
  have hS : 0 < ∑ j, Real.exp (s j) := Finset.sum_pos (fun j _ => Real.exp_pos _) hne
  have hT : 0 < ∑ j, Real.exp (s j - M) := Finset.sum_pos (fun j _ => Real.exp_pos _) hne
  simp only [e1, e2]
  rw [zero_add, sum_real, sum_real, ← EReal.coe_one, div_real _ _ hS]
  rw [sum_mul_real _ _ _ (by positivity)]
  refine Finset.sum_congr rfl fun j _ => ?_
  rw [div_real _ _ hT]
  have hM : ∑ k, Real.exp (s k - M) = (∑ k, Real.exp (s k)) * Real.exp (-M) := by
    rw [Finset.sum_mul]
    exact Finset.sum_congr rfl fun k _ => by rw [sub_eq_add_neg, Real.exp_add]
  have er : Real.exp (s j - M) * (∑ k, Real.exp (s k - M))⁻¹ = Real.exp (s j) * (1 * (∑ k, Real.exp (s k))⁻¹) := by
    rw [hM, sub_eq_add_neg, Real.exp_add]
    have := (Real.exp_pos (-M)).ne'
    have := hS.ne'
    field_simp
  rw [er, EReal.coe_mul (Real.exp (s j)), mul_comm (Real.exp (s j) : EReal) (v j), mul_assoc]

end Cert.Mla

end
-- ==== Proof.HeadValue.lean ====
/-
  One head read at an index, at the ideal reading.
-/
module

public import proofs.«01_k».proof.Proof.Head
public import proofs.«01_k».proof.Proof.Softmax
public import Idealize.ShloMosaic.Lib.IdealHost

@[expose] public section

noncomputable section

namespace Cert.Mla

open Cert.KernelIdeal Cert.KernelIdeal.Gen
open Idealize.ShloMosaic
open Idealize.ShloMosaic.ValueIdx
open scoped BigOperators

/-- The pieces of a joined array. -/
def pieces (a : FVec Ideal S512x128 .bf16) (r : FVec Ideal S512x32 .bf16) : List ((s : Shape) × (s.Idx → EReal)) :=
  [⟨S512x128, a⟩, ⟨S512x32, r⟩, ⟨S512x96, k0_pay13 (F := Ideal)⟩]

theorem joined_fst (a : FVec Ideal S512x128 .bf16) (r : FVec Ideal S512x32 .bf16) (i : Fin 512) (k : Fin 128) :
    joined a r (ix2 i ⟨k.val, by omega⟩) = a (ix2 i k) :=
  concatenate_apply_piece (t := S512x256) (1 : Fin 2) (pieces a r) concatenates_S512x128_S512x32_S512x96_S512x256_d1 _ 0 (by simp [pieces]) S512x128 a rfl rfl 0 rfl (ix2 i k)
    (fun b hb => by match b with | ⟨0, _⟩ => rfl | ⟨1, _⟩ => exact absurd rfl hb) (Nat.zero_add _)

theorem joined_snd (a : FVec Ideal S512x128 .bf16) (r : FVec Ideal S512x32 .bf16) (i : Fin 512) (k : Fin 32) :
    joined a r (ix2 i ⟨128 + k.val, by omega⟩) = r (ix2 i k) :=
  concatenate_apply_piece (t := S512x256) (1 : Fin 2) (pieces a r) concatenates_S512x128_S512x32_S512x96_S512x256_d1 _ 1 (by simp [pieces]) S512x32 r rfl rfl 128 rfl (ix2 i k)
    (fun b hb => by match b with | ⟨0, _⟩ => rfl | ⟨1, _⟩ => exact absurd rfl hb) rfl

theorem joined_pad (a : FVec Ideal S512x128 .bf16) (r : FVec Ideal S512x32 .bf16) (i : Fin 512) (k : Fin 96) :
    joined a r (ix2 i ⟨160 + k.val, by omega⟩) = (0 : EReal) :=
  (concatenate_apply_piece (t := S512x256) (1 : Fin 2) (pieces a r) concatenates_S512x128_S512x32_S512x96_S512x256_d1 _ 2 (by simp [pieces]) S512x96 (k0_pay13 (F := Ideal)) rfl rfl 160 rfl (ix2 i k)
    (fun b hb => by match b with | ⟨0, _⟩ => rfl | ⟨1, _⟩ => exact absurd rfl hb) rfl).trans
    (show FloatOps.ofBits (F := Ideal) .bf16 _ = (0 : EReal) from Ideal.ofBits_zero_bf16)

theorem sum_three (f : Fin 256 → EReal) : ∑ k, f k
    = (∑ k : Fin 128, f ⟨k.val, by omega⟩) + (∑ k : Fin 32, f ⟨128 + k.val, by omega⟩) + ∑ k : Fin 96, f ⟨160 + k.val, by omega⟩ := by
  have h1 := Fin.sum_univ_add (a := 160) (b := 96) f
  have h2 := Fin.sum_univ_add (a := 128) (b := 32) fun k => f (Fin.castAdd 96 k)
  exact h1.trans (congrArg (· + _) h2)

/-- A score: the head's own columns and the rotary ones. -/
def score0 (q : FVec Ideal S512x128 .bf16) (qr : FVec Ideal S512x32 .bf16) (k : FVec Ideal S512x128 .bf16) (kr : FVec Ideal S512x32 .bf16) (i j : Fin 512) : EReal :=
  (∑ d : Fin 128, q (ix2 i d) * k (ix2 j d)) + ∑ d : Fin 32, qr (ix2 i d) * kr (ix2 j d)

variable (q : FVec Ideal S512x128 .bf16) (qr : FVec Ideal S512x32 .bf16) (k : FVec Ideal S512x128 .bf16) (kr : FVec Ideal S512x32 .bf16) (v : FVec Ideal S512x128 .bf16)

theorem expo_apply (i j : Fin 512) : expo q qr k kr (ix2 i j) = Ideal.exp (score0 q qr k kr i j) := by
  have h : FloatOps.matmul (DotDims.transposedRhs 512 256 512) none (joined q qr) (joined k kr) (constant S512x512 .f32 0x00000000#32) (ix2 i j)
      = score0 q qr k kr i j := by
    rw [Ideal.matmul_transposedRhs_apply, constant_apply, Ideal.ofBits_zero_f32, zero_add, sum_three]
    simp only [joined_fst, joined_snd, joined_pad, mul_zero, Finset.sum_const_zero, add_zero]
    rfl
  exact congrArg Ideal.exp h

theorem sum_apply (p : FVec Ideal S512x512 .bf16) (i : Fin 512) :
    shapeCast S512x1 (multiReduction .add [1] S512 (extf .f32 p bitsLt_bf16_f32) 0x00000000#32 reduces_S512x512_S512 (.inl rfl) rfl)
      shapeCasts_S512_S512x1 (ix2 i 0) = ∑ j, p (ix2 i j) := by
  rw [shapeCast_apply _ _ (ix2 i 0) (ix1 i) (by rw [Shape.rowMajor_val_one, Shape.rowMajor_val_two]; simp [ix1, ix2])]
  refine (Ideal.multiReduction_add_single _ _ _ _ _ _).trans ?_
  exact Finset.sum_congr rfl fun j _ => congrArg p (idx2_ext rfl rfl)

theorem recip_apply (p : FVec Ideal S512x512 .bf16) (i : Fin 512) : recip p (ix2 i 0) = Ideal.div 1 (∑ j, p (ix2 i j)) := by
  unfold recip
  rw [divf_apply, sum_apply, broadcast_apply]
  exact congrArg (Ideal.div · _) Ideal.ofBits_one_f32

theorem prod_apply (p : FVec Ideal S512x512 .bf16) (i : Fin 512) (d : Fin 128) :
    matmul dot_S512x512_S512x128_S512x128_1_0_0_1_n_n none p v (constant S512x128 .f32 0x00000000#32) (ix2 i d) = ∑ j, p (ix2 i j) * v (ix2 j d) := by
  show FloatOps.matmul (DotDims.plain 512 512 128) none p v (constant S512x128 .f32 0x00000000#32) (ix2 i d) = _
  rw [Ideal.matmul_plain_apply, constant_apply, Ideal.ofBits_zero_f32, zero_add]

theorem attn_apply (i : Fin 512) (d : Fin 128) : attn q qr k kr v (ix2 i d)
    = (∑ j, Ideal.exp (score0 q qr k kr i j) * v (ix2 j d)) * Ideal.div 1 (∑ j, Ideal.exp (score0 q qr k kr i j)) := by
  unfold attn
  rw [shapeCast_self, truncf_apply, mulf_apply, broadcastTo_apply _ _ _ (ix2 i 0), recip_apply, prod_apply]
  · simp only [expo_apply]
  · intro a
    match a with
    | ⟨0, _⟩ => rfl
    | ⟨1, _⟩ => rfl

end Cert.Mla

end
-- ==== Proof.Spec.lean ====
/-
  Multi-head latent attention over the extended reals, index by index: as the kernel normalises a row (after its product with
  the values) and as the reference does (before it, the row's greatest score taken off), and the two equal where the scores'
  arguments are real.
-/
module

public import proofs.«01_k».proof.Proof.Softmax
public import Idealize.ShloMosaic.Lib.IdealHost

@[expose] public section

noncomputable section

namespace Cert.Mla

open Idealize.ShloMosaic
open scoped BigOperators

/-- The eight arguments, each read at its coordinates. -/
@[ext] structure Args where
  x : Fin 2 → Fin 512 → Fin 2048 → EReal
  wdkv : Fin 2048 → Fin 256 → EReal
  wuk : Fin 256 → Fin 2048 → EReal
  wuv : Fin 256 → Fin 2048 → EReal
  wq : Fin 2048 → Fin 2048 → EReal
  wqr : Fin 2048 → Fin 512 → EReal
  wkr : Fin 2048 → Fin 32 → EReal
  wo : Fin 2048 → Fin 2048 → EReal

/-- The scale of the scores. -/
def scale : EReal := Ideal.ofBits .f32 0x3DA1E89B#32

/-- Column `d` of head `h` among the `16 · 128`, and among the `16 · 32`. -/
def col (h : Fin 16) (d : Fin 128) : Fin 2048 := ⟨128 * h.val + d.val, by omega⟩
def colr (h : Fin 16) (d : Fin 32) : Fin 512 := ⟨32 * h.val + d.val, by omega⟩
/-- The head of a column, and its place there. -/
def headOf (n : Fin 2048) : Fin 16 := ⟨n.val / 128, by omega⟩
def placeOf (n : Fin 2048) : Fin 128 := ⟨n.val % 128, by omega⟩

namespace Args

variable (a : Args)

def comp (b : Fin 2) (i : Fin 512) (d : Fin 256) : EReal := ∑ e, a.x b i e * a.wdkv e d
def keys (b : Fin 2) (i : Fin 512) (n : Fin 2048) : EReal := ∑ d, a.comp b i d * a.wuk d n
def vals (b : Fin 2) (i : Fin 512) (n : Fin 2048) : EReal := ∑ d, a.comp b i d * a.wuv d n
def qs (b : Fin 2) (i : Fin 512) (n : Fin 2048) : EReal := ∑ e, a.x b i e * a.wq e n
def qrs (b : Fin 2) (i : Fin 512) (n : Fin 512) : EReal := ∑ e, a.x b i e * a.wqr e n
def krs (b : Fin 2) (i : Fin 512) (n : Fin 32) : EReal := ∑ e, a.x b i e * a.wkr e n

/-- A score, scaled. -/
def score (b : Fin 2) (h : Fin 16) (i j : Fin 512) : EReal :=
  ((∑ d, a.qs b i (col h d) * a.keys b j (col h d)) + ∑ d, a.qrs b i (colr h d) * a.krs b j d) * scale

/-- A score, the scale taken into the queries. -/
def scoreIn (b : Fin 2) (h : Fin 16) (i j : Fin 512) : EReal :=
  (∑ d, a.qs b i (col h d) * scale * a.keys b j (col h d)) + ∑ d, a.qrs b i (colr h d) * scale * a.krs b j d

/-- A head's output, normalised after the product with the values. -/
def headAfter (b : Fin 2) (h : Fin 16) (i : Fin 512) (d : Fin 128) : EReal :=
  (∑ j, Ideal.exp (a.scoreIn b h i j) * a.vals b j (col h d)) * Ideal.div 1 (∑ j, Ideal.exp (a.scoreIn b h i j))

/-- A row's greatest score. -/
def top (b : Fin 2) (h : Fin 16) (i : Fin 512) : EReal := Finset.univ.fold max ⊥ (a.score b h i)

/-- A head's output, normalised before it. -/
def headBefore (b : Fin 2) (h : Fin 16) (i : Fin 512) (d : Fin 128) : EReal :=
  ∑ j, a.vals b j (col h d) * Ideal.div (Ideal.exp (a.score b h i j - a.top b h i)) (0 + ∑ k, Ideal.exp (a.score b h i k - a.top b h i))

def outAfter (b : Fin 2) (i : Fin 512) (n : Fin 2048) : EReal := ∑ k, a.headAfter b (headOf k) i (placeOf k) * a.wo k n
def outBefore (b : Fin 2) (i : Fin 512) (n : Fin 2048) : EReal := ∑ k, a.headBefore b (headOf k) i (placeOf k) * a.wo k n

/-- What the scores are made of is real. -/
structure Real : Prop where
  x : ∀ b i e, ∃ r : ℝ, a.x b i e = r
  wdkv : ∀ e d, ∃ r : ℝ, a.wdkv e d = r
  wuk : ∀ d n, ∃ r : ℝ, a.wuk d n = r
  wq : ∀ e n, ∃ r : ℝ, a.wq e n = r
  wqr : ∀ e n, ∃ r : ℝ, a.wqr e n = r
  wkr : ∀ e n, ∃ r : ℝ, a.wkr e n = r

end Args

/-- A sum of products of reals is real. -/
theorem dot_real {ι : Type} [Fintype ι] (f g : ι → EReal) (hf : ∀ i, ∃ r : ℝ, f i = r) (hg : ∀ i, ∃ r : ℝ, g i = r) :
    ∃ r : ℝ, ∑ i, f i * g i = r := by
  choose f' hf using hf
  choose g' hg using hg
  refine ⟨∑ i, f' i * g' i, ?_⟩
  rw [← sum_real]
  exact Finset.sum_congr rfl fun i _ => by rw [hf, hg, EReal.coe_mul]

/-- The greatest of a nonempty row of reals is real. -/
theorem top_real {n : Nat} (hn : 0 < n) (s : Fin n → ℝ) : ∃ M : ℝ, Finset.univ.fold max ⊥ (fun j => (s j : EReal)) = M := by
  have hne : (Finset.univ : Finset (Fin n)).Nonempty := ⟨⟨0, hn⟩, Finset.mem_univ _⟩
  obtain ⟨j, -, hj⟩ := Finset.exists_mem_eq_sup' hne fun j => (s j : EReal)
  refine ⟨s j, ?_⟩
  rw [← hj, Finset.sup'_eq_sup]
  rfl

/-- The scale is a nonnegative real. -/
theorem scale_real : ∃ r : ℝ, 0 ≤ r ∧ scale = r := by
  refine ⟨(10610843 : ℝ) * (2 : ℝ) ^ (-27 : ℤ), by positivity, ?_⟩
  unfold scale
  simp [Ideal.ofBits, Ideal.ieee, -EReal.coe_mul]

namespace Args

variable {a : Args} (ha : a.Real)

theorem scoreIn_eq (a : Args) (b : Fin 2) (h : Fin 16) (i j : Fin 512) : a.scoreIn b h i j = a.score b h i j := by
  obtain ⟨r, hr, e⟩ := scale_real
  unfold scoreIn score
  rw [e, EReal.right_distrib_of_nonneg_of_ne_top (by exact_mod_cast hr) (EReal.coe_ne_top r), sum_mul_real _ _ _ hr, sum_mul_real _ _ _ hr]
  simp only [mul_right_comm]

include ha

theorem score_real (b : Fin 2) (h : Fin 16) (i j : Fin 512) : ∃ r : ℝ, a.score b h i j = r := by
  obtain ⟨r, -, e⟩ := scale_real
  have hc : ∀ b i d, ∃ r : ℝ, a.comp b i d = r := fun b i d => dot_real _ _ (ha.x b i) (fun e => ha.wdkv e d)
  have hk : ∀ b i n, ∃ r : ℝ, a.keys b i n = r := fun b i n => dot_real _ _ (hc b i) (fun d => ha.wuk d n)
  have hq : ∀ b i n, ∃ r : ℝ, a.qs b i n = r := fun b i n => dot_real _ _ (ha.x b i) (fun e => ha.wq e n)
  have hr : ∀ b i n, ∃ r : ℝ, a.qrs b i n = r := fun b i n => dot_real _ _ (ha.x b i) (fun e => ha.wqr e n)
  have hs : ∀ b i n, ∃ r : ℝ, a.krs b i n = r := fun b i n => dot_real _ _ (ha.x b i) (fun e => ha.wkr e n)
  obtain ⟨u, hu⟩ := dot_real (fun d => a.qs b i (col h d)) (fun d => a.keys b j (col h d)) (fun _ => hq _ _ _) (fun _ => hk _ _ _)
  obtain ⟨w, hw⟩ := dot_real (fun d => a.qrs b i (colr h d)) (fun d => a.krs b j d) (fun _ => hr _ _ _) (fun _ => hs _ _ _)
  exact ⟨(u + w) * r, by unfold score; rw [hu, hw, e, EReal.coe_mul, EReal.coe_add]⟩

theorem headAfter_eq (b : Fin 2) (h : Fin 16) (i : Fin 512) (d : Fin 128) : a.headAfter b h i d = a.headBefore b h i d := by
  choose s hs using fun j => score_real ha b h i j
  obtain ⟨M, hM⟩ := top_real (by decide) s
  have ht : a.top b h i = M := by
    unfold top
    rw [← hM]
    exact congrArg (fun f => Finset.univ.fold max ⊥ f) (funext hs)
  unfold headAfter headBefore
  simp only [scoreIn_eq, hs, ht]
  exact row_softmax (by decide) s _ M

theorem outAfter_eq (b : Fin 2) (i : Fin 512) (n : Fin 2048) : a.outAfter b i n = a.outBefore b i n :=
  Finset.sum_congr rfl fun k _ => by rw [headAfter_eq ha]

end Args

end Cert.Mla

end
-- ==== Proof.KernelValue.lean ====
/-
  The kernel's result blocks read at an index, at the ideal reading: multi-head latent attention of the arguments.
-/
module

public import proofs.«01_k».proof.Proof.HeadValue
public import proofs.«01_k».proof.Proof.Spec

@[expose] public section

noncomputable section

namespace Cert.Mla

open Cert.KernelIdeal Cert.KernelIdeal.Gen
open Idealize.ShloMosaic
open Idealize.ShloMosaic.TcCoe
open Idealize.ShloMosaic.ValueIdx
open Idealize.SL Idealize.SL.Sem
open scoped BigOperators

/-- A plain product into zeros, read at an index. -/
theorem mm_apply {M K N : Nat} (A : FVec Ideal ⟨2, ![M, K]⟩ .bf16) (B : FVec Ideal ⟨2, ![K, N]⟩ .bf16) (r : Fin M) (c : Fin N) :
    FloatOps.matmul (DotDims.plain M K N) none A B (constant ⟨2, ![M, N]⟩ .f32 0x00000000#32) (ix2 r c) = ∑ k, A (ix2 r k) * B (ix2 k c) := by
  rw [Ideal.matmul_plain_apply, constant_apply, Ideal.ofBits_zero_f32, zero_add]

/-- Token `i` of batch `b` among the `2 · 512`. -/
def tok (b : Fin 2) (i : Fin 512) : Fin 1024 := ⟨512 * b.val + i.val, by omega⟩

variable (m : (ℓ : Loc nD τ sig) → Buf (Elt Ideal) ℓ)

/-- The arguments as device `c`'s pair holds them. -/
def kArgs (c : Dev nD) : Args where
  x b i e := inX m c (ix3 b i e)
  wdkv e d := inWdkv m (mate c (side d.val d.isLt)) (ix2 (n0 := 2048) (n1 := 128) e ⟨d.val % 128, Nat.mod_lt _ (by decide)⟩)
  wuk d n := inWuk m (mate c (side d.val d.isLt)) (ix2 (n0 := 128) (n1 := 2048) ⟨d.val % 128, Nat.mod_lt _ (by decide)⟩ n)
  wuv d n := inWuv m (mate c (side d.val d.isLt)) (ix2 (n0 := 128) (n1 := 2048) ⟨d.val % 128, Nat.mod_lt _ (by decide)⟩ n)
  wq e n := inWq m c (band n.val n.isLt) (ix2 (n0 := 2048) (n1 := 256) e ⟨n.val % 256, Nat.mod_lt _ (by decide)⟩)
  wqr e n := inWqr m c (ix2 e n)
  wkr e n := inWkr m c (ix2 e n)
  wo e n := inWo m c (band n.val n.isLt) (ix2 (n0 := 2048) (n1 := 256) e ⟨n.val % 256, Nat.mod_lt _ (by decide)⟩)

variable (c : Dev nD)

theorem XB_apply (b : Fin 2) (i : Fin 512) (e : Fin 2048) : XB m c (ix2 (tok b i) e) = (kArgs m c).x b i e := by
  unfold XB k0_pay6
  rw [shapeCast_self, shapeCast_self, truncf_apply]
  refine shapeCast_apply _ _ (ix2 (tok b i) e) (ix3 b i e) ?_
  rw [Shape.rowMajor_val_three, Shape.rowMajor_val_two]
  show (b.val * 512 + i.val) * 2048 + e.val = (512 * b.val + i.val) * 2048 + e.val
  omega

theorem KR_apply (b : Fin 2) (i : Fin 512) (n : Fin 32) : KR m c (ix2 (tok b i) n) = (kArgs m c).krs b i n := by
  unfold KR k0_pay1
  rw [shapeCast_self, shapeCast_self, truncf_apply]
  refine (mm_apply _ _ (tok b i) n).trans (Finset.sum_congr rfl fun e _ => ?_)
  rw [XB_apply, truncf_apply]
  rfl

theorem QR_apply (b : Fin 2) (i : Fin 512) (n : Fin 512) : QR m c (ix2 (tok b i) n) = (kArgs m c).qrs b i n * scale := by
  unfold QR k0_pay2
  rw [shapeCast_self, shapeCast_self, truncf_apply, mulf_apply]
  refine congrArg (· * scale) ((mm_apply _ _ (tok b i) n).trans (Finset.sum_congr rfl fun e _ => ?_))
  rw [XB_apply, truncf_apply]
  rfl

theorem Qv_apply (b : Fin 2) (i : Fin 512) (n : Fin 2048) : Qv m c (ix2 (tok b i) n) = (kArgs m c).qs b i n * scale := by
  show QB m c (band n.val n.isLt) (ix2 (tok b i) ⟨n.val % 256, Nat.mod_lt _ (by decide)⟩) = _
  unfold QB k0_pay3
  rw [shapeCast_self, shapeCast_self, truncf_apply, mulf_apply]
  refine congrArg (· * scale) ((mm_apply _ _ (tok b i) _).trans (Finset.sum_congr rfl fun e _ => ?_))
  rw [XB_apply, truncf_apply]
  rfl

theorem Wv_apply (k n : Fin 2048) : Wv m c (ix2 k n) = (kArgs m c).wo k n := by
  show WOB m c (band n.val n.isLt) (ix2 k ⟨n.val % 256, Nat.mod_lt _ (by decide)⟩) = _
  unfold WOB k0_pay4
  rw [shapeCast_self, shapeCast_self, truncf_apply]
  rfl

theorem Kf_apply (d : Fin 256) (n : Fin 2048) : Kf m c (ix2 d n) = (kArgs m c).wuk d n := by
  show KO m (mate c (side d.val d.isLt)) (ix2 ⟨d.val % 128, Nat.mod_lt _ (by decide)⟩ n) = _
  unfold KO k0_pay8
  rw [shapeCast_self, shapeCast_self, truncf_apply]
  rfl

theorem Vf_apply (d : Fin 256) (n : Fin 2048) : Vf m c (ix2 d n) = (kArgs m c).wuv d n := by
  show VO m (mate c (side d.val d.isLt)) (ix2 ⟨d.val % 128, Nat.mod_lt _ (by decide)⟩ n) = _
  unfold VO k0_pay10 k0_pay9
  rw [shapeCast_self, shapeCast_self, truncf_apply]
  rfl

variable (hx : ∀ c c', inX m c = inX m c')
include hx

theorem Cf_apply (b : Fin 2) (i : Fin 512) (d : Fin 256) : Cf m c (ix2 (tok b i) d) = (kArgs m c).comp b i d := by
  show CO m (mate c (side d.val d.isLt)) (ix2 (tok b i) ⟨d.val % 128, Nat.mod_lt _ (by decide)⟩) = _
  unfold CO k0_pay7
  rw [shapeCast_self, shapeCast_self, truncf_apply]
  refine (mm_apply _ _ (tok b i) _).trans (Finset.sum_congr rfl fun e _ => ?_)
  rw [XB_apply, truncf_apply]
  show inX m (mate c (side d.val d.isLt)) _ * _ = inX m c _ * _
  rw [hx _ c]
  rfl

theorem keys_apply (b : Fin 2) (j : Fin 512) (n : Fin 2048) : k0_pay11 (rows b (Cf m c)) (Kf m c) (ix2 j n) = (kArgs m c).keys b j n := by
  unfold k0_pay11
  rw [truncf_apply]
  refine (mm_apply _ _ j n).trans (Finset.sum_congr rfl fun d _ => ?_)
  exact congrArg₂ (· * ·) (Cf_apply m c hx b j d) (Kf_apply m c d n)

theorem vals_apply (b : Fin 2) (j : Fin 512) (n : Fin 2048) : k0_pay12 (rows b (Cf m c)) (Vf m c) (ix2 j n) = (kArgs m c).vals b j n := by
  unfold k0_pay12
  rw [truncf_apply]
  refine (mm_apply _ _ j n).trans (Finset.sum_congr rfl fun d _ => ?_)
  exact congrArg₂ (· * ·) (Cf_apply m c hx b j d) (Vf_apply m c d n)

theorem headOut_apply (b : Fin 2) (h : Fin 16) (i : Fin 512) (d : Fin 128) : headOut m c b h (ix2 i d) = (kArgs m c).headAfter b h i d := by
  unfold headOut
  rw [headPay_eq, attn_apply]
  have hv : ∀ j, cols (k := 512) (N := 2048) 128 (128 * h.val) (by omega) (k0_pay12 (rows b (Cf m c)) (Vf m c)) (ix2 j d)
      = (kArgs m c).vals b j (col h d) := fun j => vals_apply m c hx b j (col h d)
  have hs : ∀ j, score0 (cols (k := 512) (N := 2048) 128 (128 * h.val) (by omega) (rows b (Qv m c)))
      (cols (k := 512) (N := 512) 32 (32 * h.val) (by omega) (rows b (QR m c)))
      (cols (k := 512) (N := 2048) 128 (128 * h.val) (by omega) (k0_pay11 (rows b (Cf m c)) (Kf m c))) (rows b (KR m c)) i j
      = (kArgs m c).scoreIn b h i j := fun j => by
    refine congrArg₂ (· + ·) (Finset.sum_congr rfl fun d' _ => ?_) (Finset.sum_congr rfl fun d' _ => ?_)
    · exact congrArg₂ (· * ·) (Qv_apply m c b i (col h d')) (keys_apply m c hx b j (col h d'))
    · exact congrArg₂ (· * ·) (QR_apply m c b i (colr h d')) (KR_apply m c b j d')
  simp only [hs, hv]
  rfl

theorem outB_apply (b : Fin 2) (i : Fin 512) (n : Fin 2048) : outB m c b (ix3 0 i n) = (kArgs m c).outAfter b i n := by
  unfold outB k0_pay5
  refine (shapeCast_apply _ _ (ix3 0 i n) (ix2 i n) ?_).trans ?_
  · rw [Shape.rowMajor_val_three, Shape.rowMajor_val_two]
    show i.val * 2048 + n.val = (0 * 512 + i.val) * 2048 + n.val
    omega
  · refine (mm_apply _ _ i n).trans (Finset.sum_congr rfl fun k _ => ?_)
    exact congrArg₂ (· * ·) (headOut_apply m c hx b (headOf k) i (placeOf k)) (Wv_apply m c k n)

end Cert.Mla

end
-- ==== Proof.Arrays.lean ====
/-
  The arrays a device starts and ends with, read at an index.
-/
module

public import proofs.«01_k».proof.Proof.KernelValue
public import proofs.«01_k».proof.Proof.Launch
public import Idealize.ShloMosaic.Lib.Pipeline.ValueKit

@[expose] public section

set_option maxRecDepth 16384

noncomputable section

namespace Cert.Mla

open Cert.KernelIdeal Cert.KernelIdeal.Gen
open Idealize.ShloMosaic hiding ix2 ix3
open Idealize.ShloMosaic.TcCoe
open Idealize.ShloMosaic.ValueIdx
open Idealize.SL Idealize.SL.Sem
open scoped BigOperators

variable (m : (ℓ : Loc nD τ sig) → Buf (Elt Ideal) ℓ) (c : Dev nD)

theorem inX_apply (b : Fin 2) (i : Fin 512) (e : Fin 2048) : inX m c (ix3 b i e) = m ((c : Thread nD τ).loc main_arg0) (ix3 b i e) := by
  have hi : win0_0.index t0_0 = ![0, 0, 0] := by decide +kernel
  unfold inX
  blk_ext [iblk, V, hi]

theorem inWdkv_apply (e : Fin 2048) (d : Fin 128) : inWdkv m c (ix2 e d) = m ((c : Thread nD τ).loc main_arg1) (ix2 e d) := by
  have hi : win0_1.index t0_0 = ![0, 0] := by decide +kernel
  unfold inWdkv
  blk_ext [iblk, V, hi]

theorem inWuk_apply (d : Fin 128) (n : Fin 2048) : inWuk m c (ix2 d n) = m ((c : Thread nD τ).loc main_arg2) (ix2 d n) := by
  have hi : win0_2.index t0_0 = ![0, 0] := by decide +kernel
  unfold inWuk
  blk_ext [iblk, V, hi]

theorem inWuv_apply (d : Fin 128) (n : Fin 2048) : inWuv m c (ix2 d n) = m ((c : Thread nD τ).loc main_arg3) (ix2 d n) := by
  have hi : win0_3.index t0_0 = ![0, 0] := by decide +kernel
  unfold inWuv
  blk_ext [iblk, V, hi]

theorem inWqr_apply (e : Fin 2048) (n : Fin 512) : inWqr m c (ix2 e n) = m ((c : Thread nD τ).loc main_arg5) (ix2 e n) := by
  have hi : win0_5.index t0_0 = ![0, 0] := by decide +kernel
  unfold inWqr
  blk_ext [iblk, V, hi]

theorem inWkr_apply (e : Fin 2048) (n : Fin 32) : inWkr m c (ix2 e n) = m ((c : Thread nD τ).loc main_arg6) (ix2 e n) := by
  have hi : win0_6.index t0_0 = ![0, 0] := by decide +kernel
  unfold inWkr
  blk_ext [iblk, V, hi]

theorem idx4 : ∀ t : Fin grid0.N, t.val < 8 → win0_4.index t = ![0, t.val] := by decide +kernel
theorem idx7 : ∀ t : Fin grid0.N, t.val < 8 → win0_7.index t = ![0, t.val] := by decide +kernel

theorem inWq_apply (e n : Fin 2048) : inWq m c (band n.val n.isLt) (ix2 (n0 := 2048) (n1 := 256) e ⟨n.val % 256, Nat.mod_lt _ (by decide)⟩)
    = m ((c : Thread nD τ).loc main_arg4) (ix2 e n) := by
  have hi := idx4 (band n.val n.isLt) (by show n.val / 256 < 8; omega)
  have hb : (band n.val n.isLt).val = n.val / 256 := rfl
  unfold inWq
  blk_ext [iblk, V, hi, hb]
  show _ = n.val
  omega

theorem inWo_apply (e n : Fin 2048) : inWo m c (band n.val n.isLt) (ix2 (n0 := 2048) (n1 := 256) e ⟨n.val % 256, Nat.mod_lt _ (by decide)⟩)
    = m ((c : Thread nD τ).loc main_arg7) (ix2 e n) := by
  have hi := idx7 (band n.val n.isLt) (by show n.val / 256 < 8; omega)
  have hb : (band n.val n.isLt).val = n.val / 256 := rfl
  unfold inWo
  blk_ext [iblk, V, hi, hb]
  show _ = n.val
  omega

theorem idx8 : ∀ t : Fin grid0.N, win0_8.flush t = true → win0_8.index t = ![(batch t).val, 0, 0] := by decide +kernel

/-- Every device's result array: multi-head latent attention of the arguments. -/
theorem finalA_eq (hx : ∀ c c', inX m c = inX m c') :
    finalA m c 8 = fun i : S2x512x2048.Idx => (kArgs m c).outAfter (i 0) (i 1) (i 2) := by
  refine (dats m 0 c).arrAt_eq_of_covers 8 _ (by decide +kernel) fun t hf y => ?_
  have hi := idx8 t hf
  have h0 : (y 0).val < 1 := (y 0).isLt
  have h1 : (y 1).val < 512 := (y 1).isLt
  have h2 : (y 2).val < 2048 := (y 2).isLt
  have e0 : ((win0_8.blk t).view.emb y) 0 = batch t := Fin.ext (by blk_simp [hi])
  have e1 : ((win0_8.blk t).view.emb y) 1 = (⟨(y 1).val, h1⟩ : Fin 512) := Fin.ext (by blk_simp [hi])
  have e2 : ((win0_8.blk t).view.emb y) 2 = (⟨(y 2).val, h2⟩ : Fin 2048) := Fin.ext (by blk_simp [hi])
  refine Eq.trans ?_ (congr (congr (congrArg _ e0) e1) e2).symm
  refine Eq.trans ?_ (outB_apply m c hx (batch t) ⟨(y 1).val, h1⟩ ⟨(y 2).val, h2⟩)
  refine congrArg (outB m c (batch t)) (funext fun a => ?_)
  match a with
  | ⟨0, _⟩ => exact Fin.ext (by show (y 0).val = 0; omega)
  | ⟨1, _⟩ => rfl
  | ⟨2, _⟩ => rfl

end Cert.Mla

end
-- ==== Proof.RefValue.lean ====
/-
  The reference's result read at an index, at the ideal reading.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.Mla

open Cert.ReferenceIdeal Cert.ReferenceIdeal.Gen
open Idealize.ShloMosaic
open scoped BigOperators

/-! ## The stages of the program -/

section Stages

variable (x : FVec Ideal S2x512x2048 .f32) (wdkv : FVec Ideal S2048x256 .f32) (wuk wuv : FVec Ideal S256x2048 .f32) (wq : FVec Ideal S2048x2048 .f32)
  (wqr : FVec Ideal S2048x512 .f32) (wkr : FVec Ideal S2048x32 .f32) (wo : FVec Ideal S2048x2048 .f32)

def rComp : FVec Ideal S2x512x256 .f32 := Host.dotGeneral dot_S2x512x2048_S2048x256_S2x512x256_2_0_01_1_n_n none x wdkv

def rUp (w : FVec Ideal S256x2048 .f32) : FVec Ideal S2x512x16x128 .f32 :=
  shapeCast _ (Host.dotGeneral dot_S2x512x256_S256x2048_S2x512x2048_2_0_01_1_n_n none (rComp x wdkv) w) shapeCasts_S2x512x2048_S2x512x16x128

def rQ : FVec Ideal S2x512x16x128 .f32 :=
  shapeCast _ (Host.dotGeneral dot_S2x512x2048_S2048x2048_S2x512x2048_2_0_01_1_n_n none x wq) shapeCasts_S2x512x2048_S2x512x16x128

def rQr : FVec Ideal S2x512x16x32 .f32 :=
  shapeCast _ (Host.dotGeneral dot_S2x512x2048_S2048x512_S2x512x512_2_0_01_1_n_n none x wqr) shapeCasts_S2x512x512_S2x512x16x32

def rKr : FVec Ideal S2x512x16x32 .f32 :=
  broadcastInDim S2x512x16x32 ![0, 1, 2, 3] bcast_S2x512x1x32_S2x512x16x32_0_1_2_3
    (shapeCast _ (Host.dotGeneral dot_S2x512x2048_S2048x32_S2x512x32_2_0_01_1_n_n none x wkr) shapeCasts_S2x512x32_S2x512x1x32)

/-- The scores. -/
def rScore : FVec Ideal S2x16x512x512 .f32 :=
  mulf (addf (Host.dotGeneral dot_S2x512x16x128_S2x512x16x128_S2x16x512x512_3_3_1_1_02_02 none (rQ x wq) (rUp x wdkv wuk))
      (Host.dotGeneral dot_S2x512x16x32_S2x512x16x32_S2x16x512x512_3_3_1_1_02_02 none (rQr x wqr) (rKr x wkr)))
    (broadcastInDim S2x16x512x512 ![] bcast_S_S2x16x512x512 (constant S_ .f32 0x3DA1E89B#32))

/-- A row statistic spread over its row. -/
def rSpread (r : FVec Ideal S2x16x512 .f32) : FVec Ideal S2x16x512x512 .f32 :=
  broadcastInDim S2x16x512x512 ![0, 1, 2, 3] bcast_S2x16x512x1_S2x16x512x512_0_1_2_3
    (broadcastInDim S2x16x512x1 ![0, 1, 2] bcast_S2x16x512_S2x16x512x1_0_1_2 r)

/-- The exponentials, each row's greatest score taken off. -/
def rExp (s : FVec Ideal S2x16x512x512 .f32) : FVec Ideal S2x16x512x512 .f32 :=
  Host.exp (subf s (rSpread (Host.reduce FloatOps.maximumf s (constant S_ .f32 0xFF800000#32) reducesTo_S2x16x512x512_S2x16x512_d3 h_S_)))

/-- The attention weights. -/
def rProb (e : FVec Ideal S2x16x512x512 .f32) : FVec Ideal S2x16x512x512 .f32 :=
  Host.divf e (rSpread (Host.reduceAdd e (constant S_ .f32 0x00000000#32) reducesTo_S2x16x512x512_S2x16x512_d3 h_S_))

/-- The heads' outputs side by side. -/
def rHeads (v : FVec Ideal S2x512x16x128 .f32) (p : FVec Ideal S2x16x512x512 .f32) : FVec Ideal S2x512x2048 .f32 :=
  shapeCast _ (transpose S2x512x16x128 [0, 3, 1, 2] (Host.dotGeneral dot_S2x512x16x128_S2x16x512x512_S2x16x128x512_1_3_3_2_02_01 none v p)
    transposes_S2x16x128x512_S2x512x16x128_0_3_1_2) shapeCasts_S2x512x16x128_S2x512x2048

def rOut : FVec Ideal S2x512x2048 .f32 :=
  Host.dotGeneral dot_S2x512x2048_S2048x2048_S2x512x2048_2_0_01_1_n_n none (rHeads (rUp x wdkv wuv) (rProb (rExp (rScore x wdkv wuk wq wqr wkr)))) wo

/-- The arguments read at their coordinates. -/
def rArgs : Args where
  x b i e := x (ix3 b i e)
  wdkv e d := wdkv (ix2 e d)
  wuk d n := wuk (ix2 d n)
  wuv d n := wuv (ix2 d n)
  wq e n := wq (ix2 e n)
  wqr e n := wqr (ix2 e n)
  wkr e n := wkr (ix2 e n)
  wo e n := wo (ix2 e n)

theorem col_eq (h : Fin 16) (d : Fin 128) (hl : h.val * 128 + d.val < 2048) : (⟨h.val * 128 + d.val, hl⟩ : Fin 2048) = col h d :=
  Fin.ext (by show h.val * 128 + d.val = 128 * h.val + d.val; omega)
theorem colr_eq (h : Fin 16) (d : Fin 32) (hl : h.val * 32 + d.val < 512) : (⟨h.val * 32 + d.val, hl⟩ : Fin 512) = colr h d :=
  Fin.ext (by show h.val * 32 + d.val = 32 * h.val + d.val; omega)

theorem rComp_apply (b : Fin 2) (i : Fin 512) (d : Fin 256) : rComp x wdkv (ix3 b i d) = (rArgs x wdkv wuk wuv wq wqr wkr wo).comp b i d := by
  unfold rComp
  pointwise
  rfl

theorem rUp_apply (w : FVec Ideal S256x2048 .f32) (b : Fin 2) (i : Fin 512) (h : Fin 16) (d : Fin 128) :
    rUp x wdkv w (ix4 b i h d) = ∑ k : Fin 256, (rArgs x wdkv wuk wuv wq wqr wkr wo).comp b i k * w (ix2 k (col h d)) := by
  unfold rUp
  pointwise
  simp only [col_eq, rComp_apply x wdkv wuk wuv wq wqr wkr wo]

theorem rQ_apply (b : Fin 2) (i : Fin 512) (h : Fin 16) (d : Fin 128) : rQ x wq (ix4 b i h d) = (rArgs x wdkv wuk wuv wq wqr wkr wo).qs b i (col h d) := by
  unfold rQ
  pointwise
  simp only [col_eq]
  rfl

theorem rQr_apply (b : Fin 2) (i : Fin 512) (h : Fin 16) (d : Fin 32) : rQr x wqr (ix4 b i h d) = (rArgs x wdkv wuk wuv wq wqr wkr wo).qrs b i (colr h d) := by
  unfold rQr
  pointwise
  simp only [colr_eq]
  rfl

theorem rKr_apply (b : Fin 2) (i : Fin 512) (h : Fin 16) (d : Fin 32) : rKr x wkr (ix4 b i h d) = (rArgs x wdkv wuk wuv wq wqr wkr wo).krs b i d := by
  unfold rKr
  pointwise
  rfl

theorem rScore_apply (b : Fin 2) (h : Fin 16) (i j : Fin 512) : rScore x wdkv wuk wq wqr wkr (ix4 b h i j) = (rArgs x wdkv wuk wuv wq wqr wkr wo).score b h i j := by
  unfold rScore
  pointwise
  simp only [rQ_apply x wdkv wuk wuv wq wqr wkr wo, rUp_apply x wdkv wuk wuv wq wqr wkr wo, rQr_apply x wdkv wuk wuv wq wqr wkr wo,
    rKr_apply x wdkv wuk wuv wq wqr wkr wo]
  rfl

theorem ofBits_bot : Ideal.ofBits .f32 0xFF800000#32 = ⊥ := by simp [Ideal.ofBits, Ideal.ieee]

theorem rExp_apply (s : FVec Ideal S2x16x512x512 .f32) (b : Fin 2) (h : Fin 16) (i j : Fin 512) :
    rExp s (ix4 b h i j) = Ideal.exp (s (ix4 b h i j) - Finset.univ.fold max ⊥ fun k => s (ix4 b h i k)) := by
  unfold rExp rSpread
  pointwise
  rw [ofBits_bot]

theorem rProb_apply (e : FVec Ideal S2x16x512x512 .f32) (b : Fin 2) (h : Fin 16) (i j : Fin 512) :
    rProb e (ix4 b h i j) = Ideal.div (e (ix4 b h i j)) (0 + ∑ k, e (ix4 b h i k)) := by
  unfold rProb rSpread
  pointwise

theorem rHeads_apply (v : FVec Ideal S2x512x16x128 .f32) (p : FVec Ideal S2x16x512x512 .f32) (b : Fin 2) (i : Fin 512) (n : Fin 2048) :
    rHeads v p (ix3 b i n) = ∑ j, v (ix4 b j (headOf n) (placeOf n)) * p (ix4 b (headOf n) i j) := by
  unfold rHeads
  pointwise
  rfl

theorem rOut_apply (b : Fin 2) (i : Fin 512) (n : Fin 2048) : rOut x wdkv wuk wuv wq wqr wkr wo (ix3 b i n) = (rArgs x wdkv wuk wuv wq wqr wkr wo).outBefore b i n := by
  unfold rOut
  pointwise
  simp only [rHeads_apply, rProb_apply, rExp_apply, rScore_apply x wdkv wuk wuv wq wqr wkr wo, rUp_apply x wdkv wuk wuv wq wqr wkr wo]
  rfl

end Stages

/-- The reference's result. -/
theorem res_eq (m : (ℓ : Loc nD τ sig) → Buf (Elt Ideal) ℓ) (c : Dev nD) : Value.res_main_v29 m c
    = rOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := rfl

end Cert.Mla

end
-- ==== Proof.Finite.lean ====
/-
  What the precondition says: the arguments it names are real at every index.
-/
module

public import proofs.«01_k».proof.Proof.Gen.Pre_finite_KernelIdeal
public import Idealize.ShloMosaic.Lib.ReduceAll
public import Idealize.ShloMosaic.Lib.IdealHost

@[expose] public section

noncomputable section

namespace Cert.Mla

open Idealize.ShloMosaic
open Cert.Pre_finite_KernelIdeal

/-- An extended real whose absolute value is below the infinity is real. -/
theorem real_of_abs (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : ∃ r : ℝ, x i = r := by
  haveI : Subsingleton S_.Idx := ⟨fun a b => funext fun k => k.elim0⟩
  have h := Host.reduce_andi_all _ _ hr hu j e i
  exact real_of_abs _ h

theorem and_one {a b : BitVec 1} (h : IntOp.andi a b = 1#1) : a = 1#1 ∧ b = 1#1 := by
  revert a b
  decide

variable [Facts]

theorem fn_real (x : FVec Ideal S2x512x2048 .f32) (a1 : FVec Ideal S2048x128 .f32) (a2 a3 : FVec Ideal S128x2048 .f32) (a4 : FVec Ideal S2048x2048 .f32)
    (a5 : FVec Ideal S2048x512 .f32) (a6 : FVec Ideal S2048x32 .f32) (a7 : FVec Ideal S2048x2048 .f32)
    (h : fn (F := Ideal) x a1 a2 a3 a4 a5 a6 a7 = fun _ => 1#1) :
    (∀ i, ∃ r : ℝ, x i = r) ∧ (∀ i, ∃ r : ℝ, a1 i = r) ∧ (∀ i, ∃ r : ℝ, a2 i = r) ∧ (∀ i, ∃ r : ℝ, a4 i = r) ∧ (∀ i, ∃ r : ℝ, a5 i = r)
      ∧ ∀ i, ∃ r : ℝ, a6 i = r := by
  have j : S_.Idx := fun k => k.elim0
  have h := congrFun h j
  unfold fn fn_part1 at h
  obtain ⟨h, h6⟩ := and_one h
  obtain ⟨h, h5⟩ := and_one h
  obtain ⟨h, h4⟩ := and_one h
  obtain ⟨h, h2⟩ := and_one h
  obtain ⟨h0, h1⟩ := and_one h
  exact ⟨all_real _ _ _ _ _ h0, all_real _ _ _ _ _ h1, all_real _ _ _ _ _ h2, all_real _ _ _ _ _ h4, all_real _ _ _ _ _ h5, all_real _ _ _ _ _ h6⟩

end Cert.Mla

end
-- ==== Proof.Value.lean ====
/-
  The value claim: on finite arguments every device's result array is the reference's.
-/
module

public import proofs.«01_k».proof.Defs
public import proofs.«01_k».proof.Proof.Frames
public import proofs.«01_k».proof.Proof.Arrays
public import proofs.«01_k».proof.Proof.RefValue
public import proofs.«01_k».proof.Proof.Finite

@[expose] public section

noncomputable section

namespace Cert.Mla

open Idealize.ShloMosaic hiding ix2 ix3
open Idealize.ShloMosaic.TcCoe
open Idealize.ShloMosaic.ValueIdx
open Idealize.SL Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- What the precondition gives of a device's pair. -/
theorem kArgs_real (h : @Cert.Pre_KernelIdeal_finite_KernelIdeal Cert.Pre_finite_KernelIdeal.Gen.facts m) (c : Dev Cert.KernelIdeal.nD) :
    (kArgs m c).Real := by
  haveI := Cert.Pre_finite_KernelIdeal.Gen.facts
  have hr := fun c => fn_real _ _ _ _ _ _ _ _ (h c)
  refine ⟨fun b i e => ?_, fun e d => ?_, fun d n => ?_, fun e n => ?_, fun e n => ?_, fun e n => ?_⟩
  · show ∃ r : ℝ, inX m c _ = r
    rw [inX_apply]
    exact (hr c).1 _
  · show ∃ r : ℝ, inWdkv m _ _ = r
    rw [inWdkv_apply]
    exact (hr _).2.1 _
  · show ∃ r : ℝ, inWuk m _ _ = r
    rw [inWuk_apply]
    exact (hr _).2.2.1 _
  · obtain ⟨r, h⟩ := (hr c).2.2.2.1 (ix2 e n)
    exact ⟨r, (inWq_apply m c e n).trans h⟩
  · show ∃ r : ℝ, inWqr m c _ = r
    rw [inWqr_apply]
    exact (hr _).2.2.2.2.1 _
  · show ∃ r : ℝ, inWkr m c _ = r
    rw [inWkr_apply]
    exact (hr _).2.2.2.2.2 _

/-- The whole arrays as the reference holds them. -/
def whole : Args :=
  rArgs (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4))
    (m' (((0 : Dev Cert.ReferenceIdeal.nD).tc : Thread Cert.ReferenceIdeal.nD Cert.ReferenceIdeal.τ).loc Cert.ReferenceIdeal.main_arg5))
    (m' (((0 : Dev Cert.ReferenceIdeal.nD).tc : Thread Cert.ReferenceIdeal.nD Cert.ReferenceIdeal.τ).loc Cert.ReferenceIdeal.main_arg6))
    (m' (((0 : Dev Cert.ReferenceIdeal.nD).tc : Thread Cert.ReferenceIdeal.nD Cert.ReferenceIdeal.τ).loc Cert.ReferenceIdeal.main_arg7))

/-- A block of the columns, read at an index. -/
theorem block_cols (v : (⟨2, ![2048, 256]⟩ : Shape).Idx → EReal) (c : Dev Cert.KernelIdeal.nD) (e : Fin 2048) (d : Fin 256) :
    (Layout.blockN ⟨2, ![2048, 128]⟩ ⟨2, ![2048, 256]⟩ (Layout.meshBlock [2, 2] ![[], [1]] (mate c (side d.val d.isLt))) v)
      (ix2 (n0 := 2048) (n1 := 128) e ⟨d.val % 128, Nat.mod_lt _ (by decide)⟩) = v (ix2 e d) := by
  have hp : ∀ (c : Dev Cert.KernelIdeal.nD) (p : Fin 2), ((Layout.meshBlock [2, 2] ![[], [1]] (mate c p)) (1 : Fin 2)).val = p.val := by decide
  have hz : ∀ (c : Dev Cert.KernelIdeal.nD) (p : Fin 2), ((Layout.meshBlock [2, 2] ![[], [1]] (mate c p)) (0 : Fin 2)).val = 0 := by decide
  rw [Layout.blockN_apply]
  refine congrArg v (idx2_ext ?_ ?_)
  · rw [Layout.TilesN.idx_val]
    show ((Layout.meshBlock [2, 2] ![[], [1]] (mate c (side d.val d.isLt))) (0 : Fin 2)).val * 2048 + e.val = e.val
    rw [hz]; omega
  · rw [Layout.TilesN.idx_val]
    show ((Layout.meshBlock [2, 2] ![[], [1]] (mate c (side d.val d.isLt))) (1 : Fin 2)).val * 128 + d.val % 128 = d.val
    rw [hp]
    show d.val / 128 * 128 + d.val % 128 = d.val
    omega

/-- A block of the rows, read at an index. -/
theorem block_rows (v : (⟨2, ![256, 2048]⟩ : Shape).Idx → EReal) (c : Dev Cert.KernelIdeal.nD) (d : Fin 256) (n : Fin 2048) :
    (Layout.blockN ⟨2, ![128, 2048]⟩ ⟨2, ![256, 2048]⟩ (Layout.meshBlock [2, 2] ![[1], []] (mate c (side d.val d.isLt))) v)
      (ix2 (n0 := 128) (n1 := 2048) ⟨d.val % 128, Nat.mod_lt _ (by decide)⟩ n) = v (ix2 d n) := by
  have hp : ∀ (c : Dev Cert.KernelIdeal.nD) (p : Fin 2), ((Layout.meshBlock [2, 2] ![[1], []] (mate c p)) (0 : Fin 2)).val = p.val := by decide
  have hz : ∀ (c : Dev Cert.KernelIdeal.nD) (p : Fin 2), ((Layout.meshBlock [2, 2] ![[1], []] (mate c p)) (1 : Fin 2)).val = 0 := by decide
  rw [Layout.blockN_apply]
  refine congrArg v (idx2_ext ?_ ?_)
  · rw [Layout.TilesN.idx_val]
    show ((Layout.meshBlock [2, 2] ![[1], []] (mate c (side d.val d.isLt))) (0 : Fin 2)).val * 128 + d.val % 128 = d.val
    rw [hp]
    show d.val / 128 * 128 + d.val % 128 = d.val
    omega
  · rw [Layout.TilesN.idx_val]
    show ((Layout.meshBlock [2, 2] ![[1], []] (mate c (side d.val d.isLt))) (1 : Fin 2)).val * 2048 + n.val = n.val
    rw [hz]; omega

theorem algebraic : @Cert.algebraic_KernelIdeal_ReferenceIdeal_pre_finite_KernelIdeal Cert.KernelIdeal.Gen.facts Cert.ReferenceIdeal.Gen.facts
    Cert.Pre_finite_KernelIdeal.Gen.facts := by
  intro m g m' g' hpre hag
  have hx : ∀ c c', inX m c = inX m c' := fun c c' => funext fun i => by
    have e := ValueIdx.eq_ix3 (n0 := 2) (n1 := 512) (n2 := 2048) i
    have h := ((inX_apply m c (i 0) (i 1) (i 2)).trans (congrFun ((hag c).1.trans (hag c').1.symm) _)).trans
      (inX_apply m c' (i 0) (i 1) (i 2)).symm
    exact (congrArg (inX m c) e).trans (h.trans (congrArg (inX m c') e).symm)
  have hk : ∀ c, kArgs m c = whole m' := fun c => by
    refine Args.ext ?_ ?_ ?_ ?_ ?_ ?_ ?_ ?_
    · exact funext fun b => funext fun i => funext fun e => (inX_apply m c b i e).trans (congrFun (hag c).1 _)
    · exact funext fun e => funext fun d => (inWdkv_apply m _ _ _).trans ((congrFun (hag _).2.1 _).trans (block_cols _ c e d))
    · exact funext fun d => funext fun n => (inWuk_apply m _ _ _).trans ((congrFun (hag _).2.2.1 _).trans (block_rows _ c d n))
    · exact funext fun d => funext fun n => (inWuv_apply m _ _ _).trans ((congrFun (hag _).2.2.2.1 _).trans (block_rows _ c d n))
    · exact funext fun e => funext fun n => (inWq_apply m c e n).trans (congrFun (hag c).2.2.2.2.1 _)
    · exact funext fun e => funext fun n => (inWqr_apply m c e n).trans (congrFun (hag c).2.2.2.2.2.1 _)
    · exact funext fun e => funext fun n => (inWkr_apply m c e n).trans (congrFun (hag c).2.2.2.2.2.2.1 _)
    · exact funext fun e => funext fun n => (inWo_apply m c e n).trans (congrFun (hag c).2.2.2.2.2.2.2 _)
  refine ⟨Cert.ReferenceIdeal.Value.res_main_v29 m' 0, ?_, ?_⟩
  · refine (θ_run _ _ _).mono (fun r h c => ⟨(h.1 c).1.trans ?_, (h.1 c).2⟩) (run_kernel m g)
    rw [finalA_eq m c hx, res_eq]
    funext i
    refine (Args.outAfter_eq (kArgs_real m hpre c) (i 0) (i 1) (i 2)).trans ?_
    refine (congrArg (fun a : Args => a.outBefore (i 0) (i 1) (i 2)) (hk c)).trans ?_
    refine (rOut_apply _ _ _ _ _ _ _ _ (i 0) (i 1) (i 2)).symm.trans (congrArg _ ?_)
    exact (ValueIdx.eq_ix3 (n0 := 2) (n1 := 512) (n2 := 2048) i).symm
  · exact (θ_run _ _ _).mono (fun r h => h 0) (Cert.ReferenceIdeal.Value.run m' g')

end Cert.Mla

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import proofs.«01_k».proof.Proof.Gen.Pre_finite_KernelIdeal
public import proofs.«01_k».proof.Proof.Gen.Pre_finite_ReferenceIdeal
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts, Cert.Pre_finite_KernelIdeal.Gen.facts, Cert.Pre_finite_ReferenceIdeal.Gen.facts,
  Cert.Mla.frame_printed, Cert.Mla.frame_idealized, (fun m g _ => Cert.Mla.frame_idealized m g trivial), Cert.Mla.frame_reference,
  (fun m g _ => Cert.Mla.frame_reference m g trivial), trivial, Cert.Mla.algebraic⟩

end Cert.Proof

end
